-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "lo" .f32 0xC2700000#32 ⊥
  ∧ IdealRules.named_const.Statement Cert.ReferenceIdeal.κ "hi" .f32 0x42700000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S3x1024x1024 : Shape := ⟨3, ![3, 1024, 1024]⟩
abbrev S4x1024x2048 : Shape := ⟨3, ![4, 1024, 2048]⟩
abbrev S4 : Shape := ⟨1, ![4]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x1024x2048 : Shape := ⟨3, ![1, 1024, 2048]⟩
abbrev S512x2048 : Shape := ⟨2, ![512, 2048]⟩
abbrev S256x2048 : Shape := ⟨2, ![256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4x1024x1024, .f32⟩
  | .local _ .vmem, ⟨1, _⟩ => ⟨S2x1024x2048, .f32⟩
  | .local _ .vmem, ⟨2, _⟩ => ⟨S4x1024x1024, .fp8e5m2⟩
  | .local _ .vmem, ⟨3, _⟩ => ⟨S3x1024x1024, .fp8e5m2⟩
  | .local _ .vmem, ⟨4, _⟩ => ⟨S4x1024x2048, .fp8e5m2⟩
  | .local _ .vmem, ⟨5, _⟩ => ⟨S1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v14 : BitVec 32 := Scalar.muli v13 c1024_i32
  let c0_i32_32 : BitVec 32 := 0#32
  ![v14.toNat, 0]
def k0_dev1 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v67 : BitVec 32 := Scalar.addi v2 c1_i32_43
  let c4_i32_44 : BitVec 32 := 4#32
  let c0_i32_45 : BitVec 32 := 0#32
  let v68 : BitVec 1 := Scalar.cmpi .eq c4_i32_44 c0_i32_45
  let c1_i32_46 : BitVec 32 := 1#32
  let v69 : BitVec 32 := Scalar.select v68 c1_i32_46 c4_i32_44
  let v70 : BitVec 32 := Scalar.remsi v67 v69
  let c0_i32_48 : BitVec 32 := 0#32
  let v72 : BitVec 1 := Scalar.cmpi .slt v70 c0_i32_48
  let c0_i32_49 : BitVec 32 := 0#32
  let v73 : BitVec 1 := Scalar.cmpi .slt v69 c0_i32_49
  let v74 : BitVec 1 := Scalar.xori v72 v73
  let c0_i32_47 : BitVec 32 := 0#32
  let v71 : BitVec 1 := Scalar.cmpi .ne v70 c0_i32_47
  let v75 : BitVec 1 := Scalar.andi v74 v71
  let v76 : BitVec 32 := Scalar.addi v70 v69
  let v77 : BitVec 32 := Scalar.select v75 v76 v70
  let c1_i32_51 : BitVec 32 := 1#32
  let v78 : BitVec 32 := Scalar.muli v77 c1_i32_51
  let v79 : BitVec 32 := Scalar.addi c0_i32_52 v78
  v79.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v80 : BitVec 32 := Scalar.addi v2 c2_i32_53
  let c4_i32_54 : BitVec 32 := 4#32
  let c0_i32_55 : BitVec 32 := 0#32
  let v81 : BitVec 1 := Scalar.cmpi .eq c4_i32_54 c0_i32_55
  let c1_i32_56 : BitVec 32 := 1#32
  let v82 : BitVec 32 := Scalar.select v81 c1_i32_56 c4_i32_54
  let v83 : BitVec 32 := Scalar.remsi v80 v82
  let c0_i32_58 : BitVec 32 := 0#32
  let v85 : BitVec 1 := Scalar.cmpi .slt v83 c0_i32_58
  let c0_i32_59 : BitVec 32 := 0#32
  let v86 : BitVec 1 := Scalar.cmpi .slt v82 c0_i32_59
  let v87 : BitVec 1 := Scalar.xori v85 v86
  let c0_i32_57 : BitVec 32 := 0#32
  let v84 : BitVec 1 := Scalar.cmpi .ne v83 c0_i32_57
  let v88 : BitVec 1 := Scalar.andi v87 v84
  let v89 : BitVec 32 := Scalar.addi v83 v82
  let v90 : BitVec 32 := Scalar.select v88 v89 v83
  let c1_i32_61 : BitVec 32 := 1#32
  let v91 : BitVec 32 := Scalar.muli v90 c1_i32_61
  let v92 : BitVec 32 := Scalar.addi c0_i32_62 v91
  v92.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v93 : BitVec 32 := Scalar.addi v2 c3_i32_63
  let c4_i32_64 : BitVec 32 := 4#32
  let c0_i32_65 : BitVec 32 := 0#32
  let v94 : BitVec 1 := Scalar.cmpi .eq c4_i32_64 c0_i32_65
  let c1_i32_66 : BitVec 32 := 1#32
  let v95 : BitVec 32 := Scalar.select v94 c1_i32_66 c4_i32_64
  let v96 : BitVec 32 := Scalar.remsi v93 v95
  let c0_i32_68 : BitVec 32 := 0#32
  let v98 : BitVec 1 := Scalar.cmpi .slt v96 c0_i32_68
  let c0_i32_69 : BitVec 32 := 0#32
  let v99 : BitVec 1 := Scalar.cmpi .slt v95 c0_i32_69
  let v100 : BitVec 1 := Scalar.xori v98 v99
  let c0_i32_67 : BitVec 32 := 0#32
  let v97 : BitVec 1 := Scalar.cmpi .ne v96 c0_i32_67
  let v101 : BitVec 1 := Scalar.andi v100 v97
  let v102 : BitVec 32 := Scalar.addi v96 v95
  let v103 : BitVec 32 := Scalar.select v101 v102 v96
  let c1_i32_71 : BitVec 32 := 1#32
  let v104 : BitVec 32 := Scalar.muli v103 c1_i32_71
  let v105 : BitVec 32 := Scalar.addi c0_i32_72 v104
  v105.toNat
def k0_dev4 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_110 : BitVec 32 := 0#32
  let v158 : BitVec 32 := Scalar.addi v2 c0_i32_110
  let c1_i32_111 : BitVec 32 := 1#32
  let v159 : BitVec 32 := Scalar.addi v158 c1_i32_111
  let c4_i32_112 : BitVec 32 := 4#32
  let c0_i32_113 : BitVec 32 := 0#32
  let v160 : BitVec 1 := Scalar.cmpi .eq c4_i32_112 c0_i32_113
  let c1_i32_114 : BitVec 32 := 1#32
  let v161 : BitVec 32 := Scalar.select v160 c1_i32_114 c4_i32_112
  let v162 : BitVec 32 := Scalar.remsi v159 v161
  let c0_i32_116 : BitVec 32 := 0#32
  let v164 : BitVec 1 := Scalar.cmpi .slt v162 c0_i32_116
  let c0_i32_117 : BitVec 32 := 0#32
  let v165 : BitVec 1 := Scalar.cmpi .slt v161 c0_i32_117
  let v166 : BitVec 1 := Scalar.xori v164 v165
  let c0_i32_115 : BitVec 32 := 0#32
  let v163 : BitVec 1 := Scalar.cmpi .ne v162 c0_i32_115
  let v167 : BitVec 1 := Scalar.andi v166 v163
  let v168 : BitVec 32 := Scalar.addi v162 v161
  let v169 : BitVec 32 := Scalar.select v167 v168 v162
  let c1_i32_132 : BitVec 32 := 1#32
  let v181 : BitVec 32 := Scalar.muli v169 c1_i32_132
  let v182 : BitVec 32 := Scalar.addi c0_i32_133 v181
  v182.toNat
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_110 : BitVec 32 := 0#32
  let v158 : BitVec 32 := Scalar.addi v2 c0_i32_110
  let c1_i32_111 : BitVec 32 := 1#32
  let v159 : BitVec 32 := Scalar.addi v158 c1_i32_111
  let c4_i32_112 : BitVec 32 := 4#32
  let c0_i32_113 : BitVec 32 := 0#32
  let v160 : BitVec 1 := Scalar.cmpi .eq c4_i32_112 c0_i32_113
  let c1_i32_114 : BitVec 32 := 1#32
  let v161 : BitVec 32 := Scalar.select v160 c1_i32_114 c4_i32_112
  let v162 : BitVec 32 := Scalar.remsi v159 v161
  let c0_i32_116 : BitVec 32 := 0#32
  let v164 : BitVec 1 := Scalar.cmpi .slt v162 c0_i32_116
  let c0_i32_117 : BitVec 32 := 0#32
  let v165 : BitVec 1 := Scalar.cmpi .slt v161 c0_i32_117
  let v166 : BitVec 1 := Scalar.xori v164 v165
  let c0_i32_115 : BitVec 32 := 0#32
  let v163 : BitVec 1 := Scalar.cmpi .ne v162 c0_i32_115
  let v167 : BitVec 1 := Scalar.andi v166 v163
  let v168 : BitVec 32 := Scalar.addi v162 v161
  let v169 : BitVec 32 := Scalar.select v167 v168 v162
  let c1_i32_142 : BitVec 32 := 1#32
  let v191 : BitVec 32 := Scalar.muli v169 c1_i32_142
  let v192 : BitVec 32 := Scalar.addi c0_i32_143 v191
  v192.toNat
def k0_dev6 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v201 : BitVec 32 := Scalar.addi v2 c2_i32_147
  let c1_i32_148 : BitVec 32 := 1#32
  let v202 : BitVec 32 := Scalar.addi v201 c1_i32_148
  let c4_i32_149 : BitVec 32 := 4#32
  let c0_i32_150 : BitVec 32 := 0#32
  let v203 : BitVec 1 := Scalar.cmpi .eq c4_i32_149 c0_i32_150
  let c1_i32_151 : BitVec 32 := 1#32
  let v204 : BitVec 32 := Scalar.select v203 c1_i32_151 c4_i32_149
  let v205 : BitVec 32 := Scalar.remsi v202 v204
  let c0_i32_153 : BitVec 32 := 0#32
  let v207 : BitVec 1 := Scalar.cmpi .slt v205 c0_i32_153
  let c0_i32_154 : BitVec 32 := 0#32
  let v208 : BitVec 1 := Scalar.cmpi .slt v204 c0_i32_154
  let v209 : BitVec 1 := Scalar.xori v207 v208
  let c0_i32_152 : BitVec 32 := 0#32
  let v206 : BitVec 1 := Scalar.cmpi .ne v205 c0_i32_152
  let v210 : BitVec 1 := Scalar.andi v209 v206
  let v211 : BitVec 32 := Scalar.addi v205 v204
  let v212 : BitVec 32 := Scalar.select v210 v211 v205
  let c1_i32_169 : BitVec 32 := 1#32
  let v224 : BitVec 32 := Scalar.muli v212 c1_i32_169
  let v225 : BitVec 32 := Scalar.addi c0_i32_170 v224
  v225.toNat
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v201 : BitVec 32 := Scalar.addi v2 c2_i32_147
  let c1_i32_148 : BitVec 32 := 1#32
  let v202 : BitVec 32 := Scalar.addi v201 c1_i32_148
  let c4_i32_149 : BitVec 32 := 4#32
  let c0_i32_150 : BitVec 32 := 0#32
  let v203 : BitVec 1 := Scalar.cmpi .eq c4_i32_149 c0_i32_150
  let c1_i32_151 : BitVec 32 := 1#32
  let v204 : BitVec 32 := Scalar.select v203 c1_i32_151 c4_i32_149
  let v205 : BitVec 32 := Scalar.remsi v202 v204
  let c0_i32_153 : BitVec 32 := 0#32
  let v207 : BitVec 1 := Scalar.cmpi .slt v205 c0_i32_153
  let c0_i32_154 : BitVec 32 := 0#32
  let v208 : BitVec 1 := Scalar.cmpi .slt v204 c0_i32_154
  let v209 : BitVec 1 := Scalar.xori v207 v208
  let c0_i32_152 : BitVec 32 := 0#32
  let v206 : BitVec 1 := Scalar.cmpi .ne v205 c0_i32_152
  let v210 : BitVec 1 := Scalar.andi v209 v206
  let v211 : BitVec 32 := Scalar.addi v205 v204
  let v212 : BitVec 32 := Scalar.select v210 v211 v205
  let c1_i32_179 : BitVec 32 := 1#32
  let v234 : BitVec 32 := Scalar.muli v212 c1_i32_179
  let v235 : BitVec 32 := Scalar.addi c0_i32_180 v234
  v235.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v244 : BitVec 32 := Scalar.addi v2 c1_i32_185
  let c1_i32_186 : BitVec 32 := 1#32
  let v245 : BitVec 32 := Scalar.addi v244 c1_i32_186
  let c4_i32_187 : BitVec 32 := 4#32
  let c0_i32_188 : BitVec 32 := 0#32
  let v246 : BitVec 1 := Scalar.cmpi .eq c4_i32_187 c0_i32_188
  let c1_i32_189 : BitVec 32 := 1#32
  let v247 : BitVec 32 := Scalar.select v246 c1_i32_189 c4_i32_187
  let v248 : BitVec 32 := Scalar.remsi v245 v247
  let c0_i32_191 : BitVec 32 := 0#32
  let v250 : BitVec 1 := Scalar.cmpi .slt v248 c0_i32_191
  let c0_i32_192 : BitVec 32 := 0#32
  let v251 : BitVec 1 := Scalar.cmpi .slt v247 c0_i32_192
  let v252 : BitVec 1 := Scalar.xori v250 v251
  let c0_i32_190 : BitVec 32 := 0#32
  let v249 : BitVec 1 := Scalar.cmpi .ne v248 c0_i32_190
  let v253 : BitVec 1 := Scalar.andi v252 v249
  let v254 : BitVec 32 := Scalar.addi v248 v247
  let v255 : BitVec 32 := Scalar.select v253 v254 v248
  let c1_i32_207 : BitVec 32 := 1#32
  let v267 : BitVec 32 := Scalar.muli v255 c1_i32_207
  let v268 : BitVec 32 := Scalar.addi c0_i32_208 v267
  v268.toNat
def k0_dev9 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v244 : BitVec 32 := Scalar.addi v2 c1_i32_185
  let c1_i32_186 : BitVec 32 := 1#32
  let v245 : BitVec 32 := Scalar.addi v244 c1_i32_186
  let c4_i32_187 : BitVec 32 := 4#32
  let c0_i32_188 : BitVec 32 := 0#32
  let v246 : BitVec 1 := Scalar.cmpi .eq c4_i32_187 c0_i32_188
  let c1_i32_189 : BitVec 32 := 1#32
  let v247 : BitVec 32 := Scalar.select v246 c1_i32_189 c4_i32_187
  let v248 : BitVec 32 := Scalar.remsi v245 v247
  let c0_i32_191 : BitVec 32 := 0#32
  let v250 : BitVec 1 := Scalar.cmpi .slt v248 c0_i32_191
  let c0_i32_192 : BitVec 32 := 0#32
  let v251 : BitVec 1 := Scalar.cmpi .slt v247 c0_i32_192
  let v252 : BitVec 1 := Scalar.xori v250 v251
  let c0_i32_190 : BitVec 32 := 0#32
  let v249 : BitVec 1 := Scalar.cmpi .ne v248 c0_i32_190
  let v253 : BitVec 1 := Scalar.andi v252 v249
  let v254 : BitVec 32 := Scalar.addi v248 v247
  let v255 : BitVec 32 := Scalar.select v253 v254 v248
  let c1_i32_217 : BitVec 32 := 1#32
  let v277 : BitVec 32 := Scalar.muli v255 c1_i32_217
  let v278 : BitVec 32 := Scalar.addi c0_i32_218 v277
  v278.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v244 : BitVec 32 := Scalar.addi v2 c1_i32_185
  let c1_i32_186 : BitVec 32 := 1#32
  let v245 : BitVec 32 := Scalar.addi v244 c1_i32_186
  let c4_i32_187 : BitVec 32 := 4#32
  let c0_i32_188 : BitVec 32 := 0#32
  let v246 : BitVec 1 := Scalar.cmpi .eq c4_i32_187 c0_i32_188
  let c1_i32_189 : BitVec 32 := 1#32
  let v247 : BitVec 32 := Scalar.select v246 c1_i32_189 c4_i32_187
  let v248 : BitVec 32 := Scalar.remsi v245 v247
  let c0_i32_191 : BitVec 32 := 0#32
  let v250 : BitVec 1 := Scalar.cmpi .slt v248 c0_i32_191
  let c0_i32_192 : BitVec 32 := 0#32
  let v251 : BitVec 1 := Scalar.cmpi .slt v247 c0_i32_192
  let v252 : BitVec 1 := Scalar.xori v250 v251
  let c0_i32_190 : BitVec 32 := 0#32
  let v249 : BitVec 1 := Scalar.cmpi .ne v248 c0_i32_190
  let v253 : BitVec 1 := Scalar.andi v252 v249
  let v254 : BitVec 32 := Scalar.addi v248 v247
  let v255 : BitVec 32 := Scalar.select v253 v254 v248
  let c1_i32_226 : BitVec 32 := 1#32
  let v287 : BitVec 32 := Scalar.muli v255 c1_i32_226
  let v288 : BitVec 32 := Scalar.addi c0_i32_227 v287
  v288.toNat
def k0_dev11 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v244 : BitVec 32 := Scalar.addi v2 c1_i32_185
  let c1_i32_186 : BitVec 32 := 1#32
  let v245 : BitVec 32 := Scalar.addi v244 c1_i32_186
  let c4_i32_187 : BitVec 32 := 4#32
  let c0_i32_188 : BitVec 32 := 0#32
  let v246 : BitVec 1 := Scalar.cmpi .eq c4_i32_187 c0_i32_188
  let c1_i32_189 : BitVec 32 := 1#32
  let v247 : BitVec 32 := Scalar.select v246 c1_i32_189 c4_i32_187
  let v248 : BitVec 32 := Scalar.remsi v245 v247
  let c0_i32_191 : BitVec 32 := 0#32
  let v250 : BitVec 1 := Scalar.cmpi .slt v248 c0_i32_191
  let c0_i32_192 : BitVec 32 := 0#32
  let v251 : BitVec 1 := Scalar.cmpi .slt v247 c0_i32_192
  let v252 : BitVec 1 := Scalar.xori v250 v251
  let c0_i32_190 : BitVec 32 := 0#32
  let v249 : BitVec 1 := Scalar.cmpi .ne v248 c0_i32_190
  let v253 : BitVec 1 := Scalar.andi v252 v249
  let v254 : BitVec 32 := Scalar.addi v248 v247
  let v255 : BitVec 32 := Scalar.select v253 v254 v248
  let c1_i32_236 : BitVec 32 := 1#32
  let v297 : BitVec 32 := Scalar.muli v255 c1_i32_236
  let v298 : BitVec 32 := Scalar.addi c0_i32_237 v297
  v298.toNat
def k0_off2 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_74 : BitVec 32 := 4#32
  let v106 : BitVec 32 := Scalar.addi v2 c4_i32_74
  let v107 : BitVec 32 := Scalar.subi v106 c0_i32_75
  let c4_i32_76 : BitVec 32 := 4#32
  let c0_i32_77 : BitVec 32 := 0#32
  let v108 : BitVec 1 := Scalar.cmpi .eq c4_i32_76 c0_i32_77
  let c1_i32_78 : BitVec 32 := 1#32
  let v109 : BitVec 32 := Scalar.select v108 c1_i32_78 c4_i32_76
  let v110 : BitVec 32 := Scalar.remsi v107 v109
  let c0_i32_80 : BitVec 32 := 0#32
  let v112 : BitVec 1 := Scalar.cmpi .slt v110 c0_i32_80
  let c0_i32_81 : BitVec 32 := 0#32
  let v113 : BitVec 1 := Scalar.cmpi .slt v109 c0_i32_81
  let v114 : BitVec 1 := Scalar.xori v112 v113
  let c0_i32_79 : BitVec 32 := 0#32
  let v111 : BitVec 1 := Scalar.cmpi .ne v110 c0_i32_79
  let v115 : BitVec 1 := Scalar.andi v114 v111
  let v116 : BitVec 32 := Scalar.addi v110 v109
  let v117 : BitVec 32 := Scalar.select v115 v116 v110
  let c1024_i32_82 : BitVec 32 := 1024#32
  let v118 : BitVec 32 := Scalar.muli v117 c1024_i32_82
  let c0_i32_250 : BitVec 32 := 0#32
  ![v118.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
variable {F : FTy → Type} [FloatOps F] [Named F]
def κ : String → Option EReal := fun
  | "hi" => some ⊤
  | "lo" => some ⊥
  | _ => none
-- ==== Reference.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
/-
# The kernel's devices, buffers, element sets and contents

Names for the four devices around the ring, for the buffers of the kernel's launch, for the boxes of
elements its copies and its loads and stores go through, and for what each buffer holds once written,
as one function of the whole buffer per stage of the run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

set_option maxRecDepth 16384

noncomputable section

namespace Cert.KProof

open Cert.KernelIdeal Cert.KernelIdeal.Gen
open Idealize.ShloMosaic
open Idealize.ShloMosaic.TcCoe
open Idealize.ShloMosaic.ValueIdx (ix2 ix3 eq_ix2 eq_ix3)

variable {F : FTy → Type} [FloatOps F]

/-! ## Devices -/

set_option backward.proofsInPublic true in
/-- The device `n` places after `c` around the ring. -/
def pl (c : Dev nD) (n : ℕ) : Dev nD := ⟨(c.val + n) % 4, Nat.mod_lt _ (by decide)⟩

theorem pl_val (c : Dev nD) (n : ℕ) : (pl c n).val = (c.val + n) % 4 := rfl
theorem dev_lt (c : Dev nD) : c.val < 4 := c.isLt

theorem dev1_eq (c : Dev nD) : (⟨k0_dev1 c, k0_dev1_lt c⟩ : Dev nD) = pl c 1 := by revert c; decide
theorem dev2_eq (c : Dev nD) : (⟨k0_dev2 c, k0_dev2_lt c⟩ : Dev nD) = pl c 2 := by revert c; decide
theorem dev3_eq (c : Dev nD) : (⟨k0_dev3 c, k0_dev3_lt c⟩ : Dev nD) = pl c 3 := by revert c; decide
theorem dev4_eq (c : Dev nD) : (⟨k0_dev4 c, k0_dev4_lt c⟩ : Dev nD) = pl c 1 := by revert c; decide
theorem dev5_eq (c : Dev nD) : (⟨k0_dev5 c, k0_dev5_lt c⟩ : Dev nD) = pl c 1 := by revert c; decide
theorem dev6_eq (c : Dev nD) : (⟨k0_dev6 c, k0_dev6_lt c⟩ : Dev nD) = pl c 3 := by revert c; decide
theorem dev7_eq (c : Dev nD) : (⟨k0_dev7 c, k0_dev7_lt c⟩ : Dev nD) = pl c 3 := by revert c; decide
theorem dev8_eq (c : Dev nD) : (⟨k0_dev8 c, k0_dev8_lt c⟩ : Dev nD) = pl c 2 := by revert c; decide
theorem dev9_eq (c : Dev nD) : (⟨k0_dev9 c, k0_dev9_lt c⟩ : Dev nD) = pl c 2 := by revert c; decide
theorem dev10_eq (c : Dev nD) : (⟨k0_dev10 c, k0_dev10_lt c⟩ : Dev nD) = pl c 2 := by revert c; decide
theorem dev11_eq (c : Dev nD) : (⟨k0_dev11 c, k0_dev11_lt c⟩ : Dev nD) = pl c 2 := by revert c; decide

/-! ## Row offsets of the blocks the local copies read -/

theorem off1_1 (c : Dev nD) : k0_off1 c 1#32 = ![1024 * ((c.val + 1) % 4), 0] := by revert c; decide
theorem off1_2 (c : Dev nD) : k0_off1 c 2#32 = ![1024 * ((c.val + 2) % 4), 0] := by revert c; decide
theorem off1_3 (c : Dev nD) : k0_off1 c 3#32 = ![1024 * ((c.val + 3) % 4), 0] := by revert c; decide
theorem off1_0 (c : Dev nD) : k0_off1 c 0#32 = ![1024 * ((c.val + 4) % 4), 0] := by revert c; decide
theorem off2_0 (c : Dev nD) : k0_off2 c 0#32 = ![1024 * ((c.val + 4) % 4), 0] := by revert c; decide
theorem off2_1 (c : Dev nD) : k0_off2 c 1#32 = ![1024 * ((c.val + 3) % 4), 0] := by revert c; decide
theorem off2_2 (c : Dev nD) : k0_off2 c 2#32 = ![1024 * ((c.val + 2) % 4), 0] := by revert c; decide
theorem off2_3 (c : Dev nD) : k0_off2 c 3#32 = ![1024 * ((c.val + 1) % 4), 0] := by revert c; decide

/-! ## The buffers -/

abbrev aM : Memref sig .tc .hbm S4096x1024 .f32 := Memref.whole main_arg0
abbrev bM : Memref sig .tc .hbm S4096x2048 .f32 := Memref.whole main_arg1
abbrev yM : Memref sig .tc .hbm S1024x2048 .f32 := Memref.whole main_v1
abbrev g2M : Memref sig .tc .smem S1 .f32 := Memref.whole cc0_stg0_0
abbrev g3M : Memref sig .tc .smem S1 .f32 := Memref.whole cc0_stg1_0
abbrev xM : Memref sig .tc .vmem S4x1024x1024 .f32 := Memref.whole cc0_scratch0
abbrev wM : Memref sig .tc .vmem S2x1024x2048 .f32 := Memref.whole cc0_scratch1
abbrev sM : Memref sig .tc .vmem S4x1024x1024 .fp8e5m2 := Memref.whole cc0_scratch2
abbrev rM : Memref sig .tc .vmem S3x1024x1024 .fp8e5m2 := Memref.whole cc0_scratch3
abbrev vM : Memref sig .tc .vmem S4x1024x2048 .fp8e5m2 := Memref.whole cc0_scratch4
abbrev oM : Memref sig .tc .vmem S1024x2048 .f32 := Memref.whole cc0_scratch5

/-! ## Boxes of elements -/

/-- The elements of a shape whose coordinate on each axis lies in `[off, off + size)`. -/
def box (s : Shape) (off size : Fin s.rank → ℕ) : Finset s.Idx :=
  Finset.univ.filter fun i => ∀ a, off a ≤ (i a : ℕ) ∧ (i a : ℕ) < off a + size a

theorem mem_box {s : Shape} {off size : Fin s.rank → ℕ} {i : s.Idx} :
    i ∈ box s off size ↔ ∀ a, off a ≤ (i a : ℕ) ∧ (i a : ℕ) < off a + size a := by
  unfold box; rw [Finset.mem_filter]; exact and_iff_right (Finset.mem_univ _)

/-- A contiguous rectangle's elements are its box. -/
theorem unit_set {s : Shape} (off size : Fin s.rank → ℕ) (inb) :
    (Rect.unit (s := s) off size inb).set = box s off size :=
  Finset.ext fun i => by rw [Rect.mem_set_unit, mem_box]

/-- A slice of a whole buffer covers its rectangle's box. -/
theorem slice_set (b : Ref sig .tc) (off size : Fin b.ty.shape.rank → ℕ) (inb) :
    ((View.whole b).slice (Rect.unit (s := b.ty.shape) off size inb)).set = box b.ty.shape off size :=
  (View.set_slice_whole b _).trans (unit_set off size inb)

/-- A contiguous rectangle places a coordinate by adding its offset. -/
theorem unit_emb {s : Shape} (off size : Fin s.rank → ℕ) (inb) (j : (Rect.unit (s := s) off size inb).shape.Idx) (a : Fin s.rank) :
    ((Rect.unit (s := s) off size inb).emb j a : ℕ) = off a + (j a : ℕ) := by
  rw [Rect.emb_apply]; show off a + 1 * (j a : ℕ) = _; omega

/-- An index is in a two-axis box when its coordinates are. -/
theorem mem_box2 {n0 n1 a b p q : ℕ} {i : (⟨2, ![n0, n1]⟩ : Shape).Idx} :
    i ∈ box ⟨2, ![n0, n1]⟩ ![a, b] ![p, q] ↔ (a ≤ (i 0).val ∧ (i 0).val < a + p) ∧ (b ≤ (i 1).val ∧ (i 1).val < b + q) := by
  rw [mem_box]
  exact ⟨fun h => ⟨h 0, h 1⟩, fun h a => by fin_cases a; exacts [h.1, h.2]⟩

/-- An index is in a three-axis box when its coordinates are. -/
theorem mem_box3 {n0 n1 n2 a b d p q r : ℕ} {i : (⟨3, ![n0, n1, n2]⟩ : Shape).Idx} :
    i ∈ box ⟨3, ![n0, n1, n2]⟩ ![a, b, d] ![p, q, r]
      ↔ (a ≤ (i 0).val ∧ (i 0).val < a + p) ∧ (b ≤ (i 1).val ∧ (i 1).val < b + q) ∧ (d ≤ (i 2).val ∧ (i 2).val < d + r) := by
  rw [mem_box]
  exact ⟨fun h => ⟨h 0, h 1, h 2⟩, fun h a => by fin_cases a; exacts [h.1, h.2.1, h.2.2]⟩

theorem lt2_0 {n0 n1 : ℕ} (i : (⟨2, ![n0, n1]⟩ : Shape).Idx) : (i 0).val < n0 := (i 0).isLt
theorem lt2_1 {n0 n1 : ℕ} (i : (⟨2, ![n0, n1]⟩ : Shape).Idx) : (i 1).val < n1 := (i 1).isLt
theorem lt3_0 {n0 n1 n2 : ℕ} (i : (⟨3, ![n0, n1, n2]⟩ : Shape).Idx) : (i 0).val < n0 := (i 0).isLt
theorem lt3_1 {n0 n1 n2 : ℕ} (i : (⟨3, ![n0, n1, n2]⟩ : Shape).Idx) : (i 1).val < n1 := (i 1).isLt
theorem lt3_2 {n0 n1 n2 : ℕ} (i : (⟨3, ![n0, n1, n2]⟩ : Shape).Idx) : (i 2).val < n2 := (i 2).isLt

/-! ## Transfers between devices -/

/-- Which slot of the send and receive buffers transfer `t` moves: 0 and 2 in halves, 1 in quarters. -/
def slot : Fin 8 → ℕ | 0 => 0 | 1 => 0 | 2 => 2 | 3 => 2 | 4 => 1 | 5 => 1 | 6 => 1 | 7 => 1
/-- The first row transfer `t` moves, -/
def row : Fin 8 → ℕ | 0 => 0 | 1 => 512 | 2 => 0 | 3 => 512 | 4 => 0 | 5 => 256 | 6 => 512 | 7 => 768
/-- and how many. -/
def rows : Fin 8 → ℕ | 0 => 512 | 1 => 512 | 2 => 512 | 3 => 512 | 4 => 256 | 5 => 256 | 6 => 256 | 7 => 256

/-- The device transfer `t` of device `c` goes to. -/
def dst (c : Dev nD) (t : Fin 8) : Dev nD := pl c (slot t + 1)

/-- The elements transfer `t` reads in the send buffer, -/
def sBox (t : Fin 8) : Finset S4x1024x1024.Idx := box S4x1024x1024 ![slot t, row t, 0] ![1, rows t, 1024]
/-- and writes in the receive buffer. -/
def rBox (t : Fin 8) : Finset S3x1024x1024.Idx := box S3x1024x1024 ![slot t, row t, 0] ![1, rows t, 1024]

/-! ## Contents -/

variable (m : (ℓ : Loc nD τ sig) → Buf (Elt F) ℓ)

/-- Device `c`'s block of `x` and its `w`, as vectors. -/
def xv (c : Dev nD) : Vec F S4096x1024 .f32 := m ((c : Thread nD τ).loc main_arg0)
def wv (c : Dev nD) : Vec F S4096x2048 .f32 := m ((c : Thread nD τ).loc main_arg1)

theorem blk_lt (n r : ℕ) (h : r < 1024) : 1024 * (n % 4) + r < 4096 := by omega

/-- The `x` slots once copied in: slot `j` holds row block `c + j + 1`. -/
def xC (c : Dev nD) : Vec F S4x1024x1024 .f32 := fun i =>
  xv m c (ix2 ⟨1024 * ((c.val + (i 0).val + 1) % 4) + (i 1).val, blk_lt _ _ (i 1).isLt⟩ (i 2))
/-- The send buffer once written: every `x` slot rounded to the narrow format. -/
def sC (c : Dev nD) : FVec F S4x1024x1024 .fp8e5m2 := truncf .fp8e5m2 (xC m c) bitsLt_fp8e5m2_f32
/-- The receive buffer once landed: slot `j` is slot `j` of the device `j + 1` places before. -/
def rC (c : Dev nD) : FVec F S3x1024x1024 .fp8e5m2 := fun i =>
  sC m (pl c (3 - (i 0).val)) (ix3 ⟨(i 0).val, Nat.lt_trans (i 0).isLt (by decide)⟩ (i 1) (i 2))
/-- A `w` staging slot once copied in from row block `c + k`. -/
def wC (c : Dev nD) (k : ℕ) : Vec F S2x1024x2048 .f32 := fun i =>
  wv m c (ix2 ⟨1024 * ((c.val + k) % 4) + (i 1).val, blk_lt _ _ (i 1).isLt⟩ (i 2))
/-- The rounded weights: slot `j` holds row block `c + 4 - j`. -/
def vC (c : Dev nD) : FVec F S4x1024x2048 .fp8e5m2 :=
  truncf .fp8e5m2 (fun i : S4x1024x2048.Idx =>
    wv m c (ix2 ⟨1024 * ((c.val + (4 - (i 0).val)) % 4) + (i 1).val, blk_lt _ _ (i 1).isLt⟩ (i 2)) : FVec F S4x1024x2048 .f32)
    bitsLt_fp8e5m2_f32

/-- A block of 1024 rows from two of 512. -/
def two {α : Type} (A B : S512x2048.Idx → α) : S1024x2048.Idx → α := fun i =>
  if h : (i 0).val < 512 then A (ix2 ⟨(i 0).val, h⟩ (i 1))
  else B (ix2 ⟨(i 0).val - 512, by have := lt2_0 i; omega⟩ (i 1))
/-- A block of 1024 rows from four of 256. -/
def four {α : Type} (A B C D : S256x2048.Idx → α) : S1024x2048.Idx → α := fun i =>
  if h : (i 0).val < 256 then A (ix2 ⟨(i 0).val, h⟩ (i 1))
  else if h1 : (i 0).val < 512 then B (ix2 ⟨(i 0).val - 256, by omega⟩ (i 1))
  else if h2 : (i 0).val < 768 then C (ix2 ⟨(i 0).val - 512, by omega⟩ (i 1))
  else D (ix2 ⟨(i 0).val - 768, by have := lt2_0 i; omega⟩ (i 1))

/-! ### What the loads read -/

/-- The half of receive slot `j` starting at row `o`; -/
abbrev ldR0 (c : Dev nD) : Vec F S1x512x1024 .fp8e5m2 :=
  rM.view.readAt (Elt F) (Rect.unit (s := S3x1024x1024) ![0, 0, 0] S1x512x1024.size inb_S3x1024x1024_S1x512x1024_0_0_0).toLoadRect (rC m c)
abbrev ldR1 (c : Dev nD) : Vec F S1x512x1024 .fp8e5m2 :=
  rM.view.readAt (Elt F) (Rect.unit (s := S3x1024x1024) ![0, 512, 0] S1x512x1024.size inb_S3x1024x1024_S1x512x1024_0_512_0).toLoadRect (rC m c)
abbrev ldR2 (c : Dev nD) : Vec F S1x512x1024 .fp8e5m2 :=
  rM.view.readAt (Elt F) (Rect.unit (s := S3x1024x1024) ![2, 0, 0] S1x512x1024.size inb_S3x1024x1024_S1x512x1024_2_0_0).toLoadRect (rC m c)
abbrev ldR3 (c : Dev nD) : Vec F S1x512x1024 .fp8e5m2 :=
  rM.view.readAt (Elt F) (Rect.unit (s := S3x1024x1024) ![2, 512, 0] S1x512x1024.size inb_S3x1024x1024_S1x512x1024_2_512_0).toLoadRect (rC m c)
/-- the quarters of receive slot 1; -/
abbrev ldR4 (c : Dev nD) : Vec F S1x256x1024 .fp8e5m2 :=
  rM.view.readAt (Elt F) (Rect.unit (s := S3x1024x1024) ![1, 0, 0] S1x256x1024.size inb_S3x1024x1024_S1x256x1024_1_0_0).toLoadRect (rC m c)
abbrev ldR5 (c : Dev nD) : Vec F S1x256x1024 .fp8e5m2 :=
  rM.view.readAt (Elt F) (Rect.unit (s := S3x1024x1024) ![1, 256, 0] S1x256x1024.size inb_S3x1024x1024_S1x256x1024_1_256_0).toLoadRect (rC m c)
abbrev ldR6 (c : Dev nD) : Vec F S1x256x1024 .fp8e5m2 :=
  rM.view.readAt (Elt F) (Rect.unit (s := S3x1024x1024) ![1, 512, 0] S1x256x1024.size inb_S3x1024x1024_S1x256x1024_1_512_0).toLoadRect (rC m c)
abbrev ldR7 (c : Dev nD) : Vec F S1x256x1024 .fp8e5m2 :=
  rM.view.readAt (Elt F) (Rect.unit (s := S3x1024x1024) ![1, 768, 0] S1x256x1024.size inb_S3x1024x1024_S1x256x1024_1_768_0).toLoadRect (rC m c)
/-- the weights' slots; -/
abbrev ldV0 (c : Dev nD) : Vec F S1x1024x2048 .fp8e5m2 :=
  vM.view.readAt (Elt F) (Rect.unit (s := S4x1024x2048) ![0, 0, 0] S1x1024x2048.size inb_S4x1024x2048_S1x1024x2048_0_0_0).toLoadRect (vC m c)
abbrev ldV1 (c : Dev nD) : Vec F S1x1024x2048 .fp8e5m2 :=
  vM.view.readAt (Elt F) (Rect.unit (s := S4x1024x2048) ![1, 0, 0] S1x1024x2048.size inb_S4x1024x2048_S1x1024x2048_1_0_0).toLoadRect (vC m c)
abbrev ldV2 (c : Dev nD) : Vec F S1x1024x2048 .fp8e5m2 :=
  vM.view.readAt (Elt F) (Rect.unit (s := S4x1024x2048) ![2, 0, 0] S1x1024x2048.size inb_S4x1024x2048_S1x1024x2048_2_0_0).toLoadRect (vC m c)
abbrev ldV3 (c : Dev nD) : Vec F S1x1024x2048 .fp8e5m2 :=
  vM.view.readAt (Elt F) (Rect.unit (s := S4x1024x2048) ![3, 0, 0] S1x1024x2048.size inb_S4x1024x2048_S1x1024x2048_3_0_0).toLoadRect (vC m c)
/-- the device's own `x` block, rounded; -/
abbrev ldS3 (c : Dev nD) : Vec F S1x1024x1024 .fp8e5m2 :=
  sM.view.readAt (Elt F) (Rect.unit (s := S4x1024x1024) ![3, 0, 0] S1x1024x1024.size inb_S4x1024x1024_S1x1024x1024_3_0_0).toLoadRect (sC m c)
/-- and the accumulator: whole, in halves, in quarters. -/
abbrev ldO (f : Vec F S1024x2048 .f32) : Vec F S1024x2048 .f32 :=
  oM.view.readAt (Elt F) (Rect.unit (s := S1024x2048) ![0, 0] S1024x2048.size inb_S1024x2048_S1024x2048_0_0).toLoadRect f
abbrev ldH0 (f : Vec F S1024x2048 .f32) : Vec F S512x2048 .f32 :=
  oM.view.readAt (Elt F) (Rect.unit (s := S1024x2048) ![0, 0] S512x2048.size inb_S1024x2048_S512x2048_0_0).toLoadRect f
abbrev ldH1 (f : Vec F S1024x2048 .f32) : Vec F S512x2048 .f32 :=
  oM.view.readAt (Elt F) (Rect.unit (s := S1024x2048) ![512, 0] S512x2048.size inb_S1024x2048_S512x2048_512_0).toLoadRect f
abbrev ldQ0 (f : Vec F S1024x2048 .f32) : Vec F S256x2048 .f32 :=
  oM.view.readAt (Elt F) (Rect.unit (s := S1024x2048) ![0, 0] S256x2048.size inb_S1024x2048_S256x2048_0_0).toLoadRect f
abbrev ldQ1 (f : Vec F S1024x2048 .f32) : Vec F S256x2048 .f32 :=
  oM.view.readAt (Elt F) (Rect.unit (s := S1024x2048) ![256, 0] S256x2048.size inb_S1024x2048_S256x2048_256_0).toLoadRect f
abbrev ldQ2 (f : Vec F S1024x2048 .f32) : Vec F S256x2048 .f32 :=
  oM.view.readAt (Elt F) (Rect.unit (s := S1024x2048) ![512, 0] S256x2048.size inb_S1024x2048_S256x2048_512_0).toLoadRect f
abbrev ldQ3 (f : Vec F S1024x2048 .f32) : Vec F S256x2048 .f32 :=
  oM.view.readAt (Elt F) (Rect.unit (s := S1024x2048) ![768, 0] S256x2048.size inb_S1024x2048_S256x2048_768_0).toLoadRect f

/-! ### The accumulator's stages -/

/-- After the first two products (receive slot 0 with weight slot 1), -/
def oA (c : Dev nD) : Vec F S1024x2048 .f32 :=
  two (k0_pay7 (k0_pay6 (ldR0 m c) (ldV1 m c))) (k0_pay8 (ldR1 m c) (ldV1 m c))
/-- after the device's own block's product, -/
def oB (c : Dev nD) : Vec F S1024x2048 .f32 := k0_pay11 (ldO (oA m c)) (ldS3 m c) (ldV0 m c)
/-- after receive slot 2's two products, -/
def oC (c : Dev nD) : Vec F S1024x2048 .f32 :=
  two (k0_pay13 (ldR2 m c) (ldV3 m c) (ldH0 (oB m c)))
    (k0_pay16 (k0_pay14 (ldR3 m c)) (k0_pay15 (ldV3 m c)) (ldH1 (oB m c)))
/-- and after receive slot 1's four, each scaled by `s` and passed through the activation: the result. -/
def oD (c : Dev nD) (s : F .f32) : Vec F S1024x2048 .f32 :=
  four (k0_pay19 s (ldQ0 (oC m c)) (ldR4 m c) (ldV2 m c)) (k0_pay20 s (ldQ1 (oC m c)) (ldR5 m c) (ldV2 m c))
    (k0_pay22 s (ldQ2 (oC m c)) (k0_pay21 (ldR6 m c)) (ldV2 m c)) (k0_pay24 s (ldQ3 (oC m c)) (k0_pay23 (ldR7 m c) (ldV2 m c)))

end Cert.KProof

end
-- ==== Proof.Proto.lean ====
/-
# The protocol: semaphores, what each round of each hands over, and what each device owes

A device's barrier counter is raised once by each of the three other devices, which hands over the slot
of its receive buffer that this device writes; each of its eight transfers raises its own send counter
(handing back the send elements read) and the destination's receive counter (handing the elements
written, at the sender's rounded block).
-/
module

public import proofs.«01_k».proof.Proof.Base

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's rounds, the mesh protocol's, and the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the mesh protocol's rounds sit in the algebra. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ (MT nD τ sig Unit (Elt F) ℕ UU ℕ)) := by unfold ER; infer_instance
abbrev EC : UEmb Counters (MT nD τ sig Unit (Elt F) ℕ UU ℕ) := countersEmb (U := UU)

variable (m : (ℓ : Loc nD τ sig) → Buf (Elt F) ℓ)

/-! ## Semaphores -/

/-- The runtime's barrier semaphore. -/
abbrev barS : Sem sig := (SemArray.scalar (sig.barrier 0 rfl) : Sems sig S_).sem

/-- The send semaphore of transfer `t`, -/
def sS : Fin 8 → DmaSem sig
  | 0 => ⟨14, by decide⟩ | 1 => ⟨15, by decide⟩ | 2 => ⟨16, by decide⟩ | 3 => ⟨17, by decide⟩
  | 4 => ⟨22, by decide⟩ | 5 => ⟨23, by decide⟩ | 6 => ⟨24, by decide⟩ | 7 => ⟨25, by decide⟩
/-- and its receive semaphore. -/
def rS : Fin 8 → DmaSem sig
  | 0 => ⟨18, by decide⟩ | 1 => ⟨19, by decide⟩ | 2 => ⟨20, by decide⟩ | 3 => ⟨21, by decide⟩
  | 4 => ⟨26, by decide⟩ | 5 => ⟨27, by decide⟩ | 6 => ⟨28, by decide⟩ | 7 => ⟨29, by decide⟩
/-- The twelve semaphores of the local copies: four for `x`, four for `w`, four for the result. -/
def lS : Fin 12 → DmaSem sig
  | 0 => ⟨2, by decide⟩ | 1 => ⟨3, by decide⟩ | 2 => ⟨4, by decide⟩ | 3 => ⟨5, by decide⟩
  | 4 => ⟨6, by decide⟩ | 5 => ⟨7, by decide⟩ | 6 => ⟨8, by decide⟩ | 7 => ⟨9, by decide⟩
  | 8 => ⟨10, by decide⟩ | 9 => ⟨11, by decide⟩ | 10 => ⟨12, by decide⟩ | 11 => ⟨13, by decide⟩

abbrev barCell (c : Dev nD) : GSem nD τ sig := ((c : Thread nD τ), .reg barS)
abbrev sCell (c : Dev nD) (t : Fin 8) : GSem nD τ sig := ((c : Thread nD τ), .dma (sS t))
abbrev rCell (c : Dev nD) (t : Fin 8) : GSem nD τ sig := ((c : Thread nD τ), .dma (rS t))

/-- The protocol's seventeen semaphores: the barrier, the eight send ones, the eight receive ones. -/
def csem : Fin 17 → SemLoc sig :=
  ![.reg barS,
    .dma (sS 0), .dma (sS 1), .dma (sS 2), .dma (sS 3), .dma (sS 4), .dma (sS 5), .dma (sS 6), .dma (sS 7),
    .dma (rS 0), .dma (rS 1), .dma (rS 2), .dma (rS 3), .dma (rS 4), .dma (rS 5), .dma (rS 6), .dma (rS 7)]
abbrev kcell (ck : Dev nD × Fin 17) : GSem nD τ sig := ((ck.1 : Thread nD τ), csem ck.2)

/-- Where transfer `t`'s send semaphore stands among them, -/
def kS : Fin 8 → Fin 17 | 0 => 1 | 1 => 2 | 2 => 3 | 3 => 4 | 4 => 5 | 5 => 6 | 6 => 7 | 7 => 8
/-- and its receive one. -/
def kR : Fin 8 → Fin 17 | 0 => 9 | 1 => 10 | 2 => 11 | 3 => 12 | 4 => 13 | 5 => 14 | 6 => 15 | 7 => 16

theorem csem_kS (t : Fin 8) : csem (kS t) = .dma (sS t) := by fin_cases t <;> rfl
theorem csem_kR (t : Fin 8) : csem (kR t) = .dma (rS t) := by fin_cases t <;> rfl
theorem csem_injective : Function.Injective csem := by decide

theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem sCell_eq (c : Dev nD) (t : Fin 8) : sCell c t = kcell (c, kS t) := by rw [kcell, csem_kS]
theorem rCell_eq (c : Dev nD) (t : Fin 8) : rCell c t = kcell (c, kR t) := by rw [kcell, csem_kR]

/-- What each of the seventeen is for. -/
inductive Role
  | bar | send (t : Fin 8) | recv (t : Fin 8)

def role : Fin 17 → Role :=
  ![.bar, .send 0, .send 1, .send 2, .send 3, .send 4, .send 5, .send 6, .send 7,
    .recv 0, .recv 1, .recv 2, .recv 3, .recv 4, .recv 5, .recv 6, .recv 7]

theorem role_kS (t : Fin 8) : role (kS t) = .send t := by fin_cases t <;> rfl
theorem role_kR (t : Fin 8) : role (kR t) = .recv t := by fin_cases t <;> rfl

/-- Which of the protocol's semaphores a location is, if any. -/
def kind (s : SemLoc sig) : Option (Fin 17) := (List.finRange 17).find? fun k => csem k = s

theorem kind_csem (k : Fin 17) : kind (csem k) = some k := by revert k; decide

/-! ## Amounts -/

/-- What a half's transfer credits, -/
abbrev nH : ℕ := ((rM.slice (Rect.unit (s := S3x1024x1024) ![0, 0, 0] S1x512x1024.size inb_S3x1024x1024_S1x512x1024_0_0_0) (fun _ => rfl)).squeeze
  S512x1024 squeezes_S1x512x1024_S512x1024).view.dmaCredit
/-- and a quarter's. -/
abbrev nQ : ℕ := ((rM.slice (Rect.unit (s := S3x1024x1024) ![1, 0, 0] S1x256x1024.size inb_S3x1024x1024_S1x256x1024_1_0_0) (fun _ => rfl)).squeeze
  S256x1024 squeezes_S1x256x1024_S256x1024).view.dmaCredit

def amt : Fin 8 → ℕ | 0 => nH | 1 => nH | 2 => nH | 3 => nH | 4 => nQ | 5 => nQ | 6 => nQ | 7 => nQ

theorem nH_pos : 0 < nH := View.dmaCredit_pos _ (by decide)
theorem nQ_pos : 0 < nQ := View.dmaCredit_pos _ (by decide)
theorem amt_pos (t : Fin 8) : 0 < amt t := by fin_cases t <;> first | exact nH_pos | exact nQ_pos

/-! ## Pieces of the send and receive buffers -/

/-- The elements transfer `t` reads in `c`'s send buffer, at contents `f`; -/
def sP (c : Dev nD) (t : Fin 8) (f : FVec F S4x1024x1024 .fp8e5m2) : sProp 𝕄 :=
  sM.view.loc (c : Thread nD τ) ↦[sBox t]{fullShare} f
/-- the elements transfer `t` writes in `c`'s receive buffer, at contents `f`. -/
def rP (c : Dev nD) (t : Fin 8) (f : FVec F S3x1024x1024 .fp8e5m2) : sProp 𝕄 :=
  rM.view.loc (c : Thread nD τ) ↦[rBox t]{fullShare} f

omit [FloatOps F] in
instance sP_storable (c : Dev nD) (t : Fin 8) (f) : BI.Storable (upEmb : UEmb _ 𝕄) (sP (F := F) c t f) := by unfold sP; infer_instance
omit [FloatOps F] in
instance rP_storable (c : Dev nD) (t : Fin 8) (f) : BI.Storable (upEmb : UEmb _ 𝕄) (rP (F := F) c t f) := by unfold rP; infer_instance

/-! ## The schedule -/

/-- What the signal of duty `d` at `c`'s barrier hands `c`: the receive slot `2 - d` of the device `3 - d` places
    after it, in the pieces `c`'s transfers write. -/
def barPay (c : Dev nD) (d : Fin 3) : sProp 𝕄 := match d with
  | 0 => iprop((∃ f, rP (pl c 3) 2 f) ∗ (∃ f, rP (pl c 3) 3 f))
  | 1 => iprop((∃ f, rP (pl c 2) 4 f) ∗ (∃ f, rP (pl c 2) 5 f) ∗ (∃ f, rP (pl c 2) 6 f) ∗ (∃ f, rP (pl c 2) 7 f))
  | 2 => iprop((∃ f, rP (pl c 1) 0 f) ∗ (∃ f, rP (pl c 1) 1 f))

/-- What a duty hands over, by its semaphore's role. -/
def pay (c : Dev nD) (d : Fin 3) : Role → sProp 𝕄
  | .bar => barPay c d
  | .send t => sP c t (sC m c)
  | .recv t => rP c t (rC m c)

/-- How much a duty raises the counter by, -/
def amtOf : Role → ℕ | .bar => 1 | .send t => amt t | .recv t => amt t
/-- and which duties there are: three at a barrier, one elsewhere. -/
def dutiesOf : Role → Finset (Fin 3) | .bar => Finset.univ | .send _ => {0} | .recv _ => {0}

theorem amtOf_pos (r : Role) : 0 < amtOf r := by
  cases r
  · exact Nat.one_pos
  · exact amt_pos _
  · exact amt_pos _

instance pay_storable (c : Dev nD) (d : Fin 3) (r : Role) : BI.Storable (upEmb : UEmb _ 𝕄) (pay m c d r) := by
  cases r
  · show BI.Storable (upEmb : UEmb _ 𝕄) (barPay (F := F) c d)
    fin_cases d <;> (unfold barPay; infer_instance)
  · show BI.Storable (upEmb : UEmb _ 𝕄) (sP c _ (sC m c)); infer_instance
  · show BI.Storable (upEmb : UEmb _ 𝕄) (rP c _ (rC m c)); infer_instance

/-- The one round of the protocol. -/
def Rd : Rounds.Schedule (GSem nD τ sig) (Fin 3) 𝕄 where
  duties g r := if r = 0 ∧ g.1.2 = .tc then (match kind g.2 with | some k => dutiesOf (role k) | none => ∅) else ∅
  unitless _ := False
  amount g _ _ := match kind g.2 with | some k => amtOf (role k) | none => 1
  payload g _ d := match kind g.2 with | some k => pay m g.1.1 d (role k) | none => iprop(emp)
  amount_pos g _ _ _ := by
    cases kind g.2 with
    | none => exact Nat.one_pos
    | some k => exact amtOf_pos _

instance Rd_payload_storable (g : GSem nD τ sig) (r : ℕ) (d : Fin 3) :
    BI.Storable (upEmb : UEmb _ 𝕄) ((Rd (F := F) m).payload g r d) := by
  show BI.Storable upEmb (match kind g.2 with | some k => pay m g.1.1 d (role k) | none => iprop(emp))
  split <;> infer_instance

section Tables
variable (c : Dev nD) (k : Fin 17)

theorem duties_k : (Rd m).duties (kcell (c, k)) 0 = dutiesOf (role k) := by
  dsimp only [Rd]; rw [if_pos ⟨rfl, rfl⟩, kind_csem]
theorem duties_later (g : GSem nD τ sig) : ∀ r, 1 ≤ r → (Rd m).duties g r = ∅ :=
  fun r hr => by dsimp only [Rd]; exact if_neg fun h => by omega
theorem amount_k (d : Fin 3) : (Rd m).amount (kcell (c, k)) 0 d = amtOf (role k) := by
  dsimp only [Rd]; rw [kind_csem]
theorem payload_k (d : Fin 3) : (Rd m).payload (kcell (c, k)) 0 d = pay m c d (role k) := by
  dsimp only [Rd]; rw [kind_csem]

theorem duties_bar : (Rd m).duties (barCell c) 0 = Finset.univ := duties_k m c 0
theorem duties_s (t : Fin 8) : (Rd m).duties (sCell c t) 0 = {0} := by rw [sCell_eq, duties_k, role_kS]; rfl
theorem duties_r (t : Fin 8) : (Rd m).duties (rCell c t) 0 = {0} := by rw [rCell_eq, duties_k, role_kR]; rfl
theorem amount_bar (d : Fin 3) : (Rd m).amount (barCell c) 0 d = 1 := amount_k m c 0 d
theorem amount_s (t : Fin 8) (d : Fin 3) : (Rd m).amount (sCell c t) 0 d = amt t := by rw [sCell_eq, amount_k, role_kS]; rfl
theorem amount_r (t : Fin 8) (d : Fin 3) : (Rd m).amount (rCell c t) 0 d = amt t := by rw [rCell_eq, amount_k, role_kR]; rfl
theorem payload_bar (d : Fin 3) : (Rd m).payload (barCell c) 0 d = barPay c d := payload_k m c 0 d
theorem payload_s (t : Fin 8) (d : Fin 3) : (Rd m).payload (sCell c t) 0 d = sP c t (sC m c) := by rw [sCell_eq, payload_k, role_kS]; rfl
theorem payload_r (t : Fin 8) (d : Fin 3) : (Rd m).payload (rCell c t) 0 d = rP c t (rC m c) := by rw [rCell_eq, payload_k, role_kR]; rfl

theorem expect_bar : (Rd m).expect (barCell c) 0 = 3 := by
  unfold Schedule.expect Schedule.amountOf
  rw [duties_bar, Finset.sum_congr rfl fun d _ => amount_bar m c d, Finset.sum_const]; rfl
theorem expect_s (t : Fin 8) : (Rd m).expect (sCell c t) 0 = amt t := by
  unfold Schedule.expect Schedule.amountOf; rw [duties_s, Finset.sum_singleton, amount_s]
theorem expect_r (t : Fin 8) : (Rd m).expect (rCell c t) 0 = amt t := by
  unfold Schedule.expect Schedule.amountOf; rw [duties_r, Finset.sum_singleton, amount_r]

/-- All a barrier's round hands over: the three slots `c`'s transfers write. -/
theorem rest_bar : bigSep ((Rd m).duties (barCell c) 0 \ ∅) (fun d => (Rd m).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]; rfl
theorem rest_s (t : Fin 8) : bigSep ((Rd m).duties (sCell c t) 0 \ ∅) (fun d => (Rd m).payload (sCell c t) 0 d) = sP c t (sC m c) := by
  rw [Finset.sdiff_empty, duties_s, bigSep_singleton, payload_s]
theorem rest_r (t : Fin 8) : bigSep ((Rd m).duties (rCell c t) 0 \ ∅) (fun d => (Rd m).payload (rCell c t) 0 d) = rP c t (rC m c) := by
  rw [Finset.sdiff_empty, duties_r, bigSep_singleton, payload_r]

end Tables

/-! ## What each device owes -/

/-- What device `c` still owes once its first `n` transfers are started: the others' credit at their destinations. -/
def OS (c : Dev nD) (n : ℕ) : CellTallies nD τ sig Unit :=
  ∑ t ∈ Finset.univ.filter (fun t : Fin 8 => n ≤ t.val), tallyAt (rCell (dst c t) t) () (amt t)

/-- At launch it owes besides a unit to each other device's barrier. -/
def O3 (c : Dev nD) : CellTallies nD τ sig Unit := OS c 0 + tallyAt (barCell (pl c 3)) () 1
def O2 (c : Dev nD) : CellTallies nD τ sig Unit := O3 c + tallyAt (barCell (pl c 2)) () 1
def O₀ (c : Dev nD) : CellTallies nD τ sig Unit := O2 c + tallyAt (barCell (pl c 1)) () 1

/-- Starting transfer `t` takes its credit off what is owed. -/
theorem OS_peel (c : Dev nD) (t : Fin 8) : OS c t.val = OS c (t.val + 1) + tallyAt (rCell (dst c t) t) () (amt t) := by
  unfold OS
  rw [show (Finset.univ.filter fun u : Fin 8 => t.val ≤ u.val) = insert t (Finset.univ.filter fun u : Fin 8 => t.val + 1 ≤ u.val) from by
      ext u; simp only [Finset.mem_filter, Finset.mem_univ, true_and, Finset.mem_insert, Fin.ext_iff]; omega,
    Finset.sum_insert (by simp), add_comm]
theorem OS_end (c : Dev nD) : OS c 8 = 0 := by
  unfold OS
  rw [show (Finset.univ.filter fun u : Fin 8 => 8 ≤ u.val) = ∅ from by ext u; simp, Finset.sum_empty]

def L (g : GSem nD τ sig) : Finset Unit := if g.1.2 = .tc then {()} else ∅

/-- Whether a location is a receive semaphore. -/
def isR (s : SemLoc sig) : Bool := match kind s with
  | some k => (match role k with | .recv _ => true | _ => false)
  | none => false
theorem isR_rS (t : Fin 8) : isR (.dma (rS t)) = true := by
  unfold isR; rw [← csem_kR, kind_csem]; show (match role (kR t) with | .recv _ => true | _ => false) = true; rw [role_kR]

/-- Barriers at level 1, receive semaphores at 2, everything else at 0. -/
def lv (g : GSem nD τ sig) (_ : Unit) : ℕ := if g.2 = .reg barS then 1 else if isR g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_r (c : Dev nD) (t : Fin 8) (u : Unit) : lv (rCell c t) u = 2 := by
  unfold lv; rw [if_neg (fun h => by cases h), if_pos (isR_rS t)]
theorem lv_bar (c : Dev nD) (u : Unit) : lv (barCell c) u = 1 := if_pos rfl

/-- A tally every one of whose cells is a TensorCore's, above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0
theorem above_at {n : ℕ} (c : Dev nD) (sm : SemLoc sig) (a : ℕ) (h : n < lv ((c : Thread nD τ), sm) ()) :
    Above n (tallyAt ((c : Thread nD τ), sm) () a) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_OS (c : Dev nD) (n : ℕ) : Above 1 (OS c n) := by
  unfold OS
  exact Finset.sum_induction _ (Above 1) (fun _ _ => above_add) (above_zero 1)
    fun t _ => above_at _ _ _ (by rw [show lv ((dst c t : Thread nD τ), SemLoc.dma (rS t)) () = 2 from lv_r _ t ()]; decide)
theorem above_mono {n k : ℕ} (h : k ≤ n) {O : CellTallies nD τ sig Unit} (hO : Above n O) : Above k O :=
  fun g u hg => ⟨(hO g u hg).1, lt_of_le_of_lt h (hO g u hg).2⟩
theorem above_O₀ (c : Dev nD) : Above 0 (O₀ c) := by
  unfold O₀ O2 O3
  have hb (d : Dev nD) : Above 0 (tallyAt (barCell d) () 1) := above_at d _ 1 (by rw [show lv ((d : Thread nD τ), SemLoc.reg barS) () = 1 from lv_bar d ()]; decide)
  exact above_add (above_add (above_add (above_mono (Nat.zero_le 1) (above_OS c 0)) (hb _)) (hb _)) (hb _)

omit [FloatOps F] in
/-- A device may wait at a semaphore whose level is at most `n` while it owes only above `n`. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KProof

end
-- ==== Proof.Reads.lean ====
/-
# What each view of a buffer reads of its contents

One equation per copy, store and transfer of the kernel: the contents the buffer is said to hold
afterwards, read through the view that was written, are the values that were written.
-/
module

public import proofs.«01_k».proof.Proof.Base

@[expose] public section

set_option maxRecDepth 16384

noncomputable section

namespace Cert.KProof

open Cert.KernelIdeal Cert.KernelIdeal.Gen
open Idealize.ShloMosaic
open Idealize.ShloMosaic.TcCoe
open Idealize.ShloMosaic.ValueIdx (ix2 ix3 eq_ix2 eq_ix3 reshapeEquiv_ix2_1ab)

variable {F : FTy → Type} [FloatOps F] (m : (ℓ : Loc nD τ sig) → Buf (Elt F) ℓ)

/-- Two elements of a two-axis vector are the same when the coordinates agree. -/
theorem at2 {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (by rw [eq_ix2 i, eq_ix2 j, Fin.ext h0, Fin.ext h1])

/-- The same on three axes. -/
theorem at3 {α : Type} {n0 n1 n2 : ℕ} (f : (⟨3, ![n0, n1, n2]⟩ : Shape).Idx → α) {i j : (⟨3, ![n0, n1, n2]⟩ : Shape).Idx}
    (h0 : (i 0).val = (j 0).val) (h1 : (i 1).val = (j 1).val) (h2 : (i 2).val = (j 2).val) : f i = f j :=
  congrArg f (by rw [eq_ix3 i, eq_ix3 j, Fin.ext h0, Fin.ext h1, Fin.ext h2])

/-- An `x` slot after its copy: the row block of the device's own `x`. -/
theorem read_x (c : Dev nD) (j : ℕ) (o : Fin 2 → ℕ) (ho : o = ![1024 * ((c.val + j + 1) % 4), 0]) (inb) (inb') (hs) (hs') :
    ((xM.slice (Rect.unit (s := S4x1024x1024) ![j, 0, 0] S1x1024x1024.size inb) hs).squeeze S1024x1024
        squeezes_S1x1024x1024_S1024x1024).view.read (Elt F) (xC m c)
      = (aM.slice (Rect.unit (s := S4096x1024) o S1024x1024.size inb') hs').view.read (Elt F) (xv m c) := by
  subst ho
  funext y
  obtain ⟨a, b, rfl⟩ : ∃ a b, y = ix2 a b := ⟨y 0, y 1, eq_ix2 y⟩
  show xC m c ((Rect.unit (s := S4x1024x1024) ![j, 0, 0] S1x1024x1024.size inb).emb (Shape.reshapeEquiv _ (ix2 a b)))
    = xv m c ((Rect.unit (s := S4096x1024) ![1024 * ((c.val + j + 1) % 4), 0] S1024x1024.size inb').emb (ix2 a b))
  erw [reshapeEquiv_ix2_1ab _ a b]
  unfold xC
  refine at2 (xv m c) ?_ ?_
  · show 1024 * ((c.val + (j + 1 * 0) + 1) % 4) + (0 + 1 * a.val) = 1024 * ((c.val + j + 1) % 4) + 1 * a.val
    omega
  · show 0 + 1 * b.val = 0 + 1 * b.val
    rfl

/-- A `w` staging slot after its copy: the row block of `w`. -/
theorem read_w (c : Dev nD) (j k : ℕ) (o : Fin 2 → ℕ) (ho : o = ![1024 * ((c.val + k) % 4), 0]) (inb) (inb') (hs) (hs') :
    ((wM.slice (Rect.unit (s := S2x1024x2048) ![j, 0, 0] S1x1024x2048.size inb) hs).squeeze S1024x2048
        squeezes_S1x1024x2048_S1024x2048).view.read (Elt F) (wC m c k)
      = (bM.slice (Rect.unit (s := S4096x2048) o S1024x2048.size inb') hs').view.read (Elt F) (wv m c) := by
  subst ho
  funext y
  obtain ⟨a, b, rfl⟩ : ∃ a b, y = ix2 a b := ⟨y 0, y 1, eq_ix2 y⟩
  show wC m c k ((Rect.unit (s := S2x1024x2048) ![j, 0, 0] S1x1024x2048.size inb).emb (Shape.reshapeEquiv _ (ix2 a b)))
    = wv m c ((Rect.unit (s := S4096x2048) ![1024 * ((c.val + k) % 4), 0] S1024x2048.size inb').emb (ix2 a b))
  erw [reshapeEquiv_ix2_1ab _ a b]
  unfold wC
  refine at2 (wv m c) ?_ ?_
  · show 1024 * ((c.val + k) % 4) + (0 + 1 * a.val) = 1024 * ((c.val + k) % 4) + 1 * a.val
    omega
  · show 0 + 1 * b.val = 0 + 1 * b.val
    rfl

/-- Casting to another shape, rounding and casting back rounds. -/
theorem cast_trunc {s t : Shape} (v : FVec F s .f32) (h : s.ShapeCasts t) (h' : t.ShapeCasts s) (hb) :
    shapeCast s (truncf .fp8e5m2 (shapeCast t v h) hb) h' = truncf .fp8e5m2 v hb := by
  funext y
  show FloatOps.truncf _ _ (v (Shape.reshapeEquiv _ (Shape.reshapeEquiv _ y))) = FloatOps.truncf _ _ (v y)
  rw [Shape.reshapeEquiv_reshapeEquiv, Shape.reshapeEquiv_self]

theorem pay1_eq (v : Vec F S1x1024x1024 .f32) : k0_pay1 v = truncf .fp8e5m2 (v : FVec F _ _) bitsLt_fp8e5m2_f32 := cast_trunc v _ _ _
theorem pay2_eq (v : Vec F S1x1024x1024 .f32) : k0_pay2 v = truncf .fp8e5m2 (v : FVec F _ _) bitsLt_fp8e5m2_f32 := cast_trunc v _ _ _
theorem pay3_eq (v : Vec F S1x1024x1024 .f32) : k0_pay3 v = truncf .fp8e5m2 (v : FVec F _ _) bitsLt_fp8e5m2_f32 := cast_trunc v _ _ _
theorem pay10_eq (v : Vec F S1x1024x1024 .f32) : k0_pay10 (k0_pay9 v) = truncf .fp8e5m2 (v : FVec F _ _) bitsLt_fp8e5m2_f32 := cast_trunc v _ _ _
theorem pay4_eq (v : Vec F S1x1024x2048 .f32) : k0_pay4 v = truncf .fp8e5m2 (v : FVec F _ _) bitsLt_fp8e5m2_f32 := cast_trunc v _ _ _
theorem pay5_eq (v : Vec F S1x1024x2048 .f32) : k0_pay5 v = truncf .fp8e5m2 (v : FVec F _ _) bitsLt_fp8e5m2_f32 := cast_trunc v _ _ _
theorem pay12_eq (v : Vec F S1x1024x2048 .f32) : k0_pay12 v = truncf .fp8e5m2 (v : FVec F _ _) bitsLt_fp8e5m2_f32 := cast_trunc v _ _ _
theorem pay17_eq (v : Vec F S1x1024x2048 .f32) : k0_pay17 v = truncf .fp8e5m2 (v : FVec F _ _) bitsLt_fp8e5m2_f32 := cast_trunc v _ _ _

/-- A send slot after its store: the rounded `x` slot. -/
theorem read_s (c : Dev nD) (j : ℕ) (inb) (inb') :
    (sM.access (Rect.unit (s := S4x1024x1024) ![j, 0, 0] S1x1024x1024.size inb)).read (Elt F) (sC m c)
      = truncf .fp8e5m2 (xM.view.readAt (Elt F) (Rect.unit (s := S4x1024x1024) ![j, 0, 0] S1x1024x1024.size inb').toLoadRect (xC m c)
          : FVec F S1x1024x1024 .f32) bitsLt_fp8e5m2_f32 := rfl

/-- A weight slot after its store: the rounded staging slot. -/
theorem read_v (c : Dev nD) (j k : ℕ) (inb) (inb') :
    (vM.access (Rect.unit (s := S4x1024x2048) ![j, 0, 0] S1x1024x2048.size inb)).read (Elt F) (vC m c)
      = truncf .fp8e5m2 (wM.view.readAt (Elt F) (Rect.unit (s := S2x1024x2048) ![k, 0, 0] S1x1024x2048.size inb').toLoadRect (wC m c (4 - j))
          : FVec F S1x1024x2048 .f32) bitsLt_fp8e5m2_f32 := by
  funext y
  refine congrArg (FloatOps.truncf (F := F) .fp8e5m2 bitsLt_fp8e5m2_f32) ?_
  refine at2 (wv m c) ?_ ?_
  · have h0 : (y 0).val < 1 := (y 0).isLt
    show 1024 * ((c.val + (4 - (j + 1 * (y 0).val))) % 4) + (0 + 1 * (y 1).val) = 1024 * ((c.val + (4 - j)) % 4) + (0 + 1 * (y 1).val)
    rw [show j + 1 * (y 0).val = j by omega]
  · rfl

/-- What lands in a receive slot is what its device's sender had in the same slot and rows. -/
theorem rC_dst (c : Dev nD) (j : ℕ) (hj : j < 3) (i : S3x1024x1024.Idx) (k : S4x1024x1024.Idx)
    (h : (i 0).val = j) (h0 : (k 0).val = j) (h1 : (k 1).val = (i 1).val) (h2 : (k 2).val = (i 2).val) :
    rC m (pl c (j + 1)) i = sC m c k := by
  unfold rC
  have hp : pl (pl c (j + 1)) (3 - (i 0).val) = c := Fin.ext (by
    rw [pl_val, pl_val, h]; have := dev_lt c; omega)
  rw [hp]
  exact at3 (sC m c) (h.trans h0.symm) h1.symm h2.symm

/-- The receive half a transfer writes, read at the destination, is the send half it reads. -/
theorem read_half (c : Dev nD) (j o : ℕ) (hj : j < 3) (inb) (inb') (hs) (hs') :
    ((rM.slice (Rect.unit (s := S3x1024x1024) ![j, o, 0] S1x512x1024.size inb) hs).squeeze S512x1024
        squeezes_S1x512x1024_S512x1024).view.read (Elt F) (rC m (pl c (j + 1)))
      = ((sM.slice (Rect.unit (s := S4x1024x1024) ![j, o, 0] S1x512x1024.size inb') hs').squeeze S512x1024
        squeezes_S1x512x1024_S512x1024).view.read (Elt F) (sC m c) := by
  funext y
  refine rC_dst m c j hj _ _ ?_ ?_ rfl rfl
  all_goals
    show j + 1 * ((Shape.reshapeEquiv _ y : S1x512x1024.Idx) 0).val = j
    have h0 : ((Shape.reshapeEquiv (s := S1x512x1024) squeezes_S1x512x1024_S512x1024.numel_eq y) 0).val < 1 := Fin.isLt _
    omega

/-- The same for a quarter. -/
theorem read_quarter (c : Dev nD) (j o : ℕ) (hj : j < 3) (inb) (inb') (hs) (hs') :
    ((rM.slice (Rect.unit (s := S3x1024x1024) ![j, o, 0] S1x256x1024.size inb) hs).squeeze S256x1024
        squeezes_S1x256x1024_S256x1024).view.read (Elt F) (rC m (pl c (j + 1)))
      = ((sM.slice (Rect.unit (s := S4x1024x1024) ![j, o, 0] S1x256x1024.size inb') hs').squeeze S256x1024
        squeezes_S1x256x1024_S256x1024).view.read (Elt F) (sC m c) := by
  funext y
  refine rC_dst m c j hj _ _ ?_ ?_ rfl rfl
  all_goals
    show j + 1 * ((Shape.reshapeEquiv _ y : S1x256x1024.Idx) 0).val = j
    have h0 : ((Shape.reshapeEquiv (s := S1x256x1024) squeezes_S1x256x1024_S256x1024.numel_eq y) 0).val < 1 := Fin.isLt _
    omega

/-! ## The accumulator's parts -/

theorem two_lo {α : Type} (A B : S512x2048.Idx → α) (i : S1024x2048.Idx) (k : S512x2048.Idx) (h : (i 0).val = (k 0).val)
    (h1 : (i 1).val = (k 1).val) : two A B i = A k := by
  have hk := lt2_0 k
  unfold two; rw [dif_pos (by omega)]; exact at2 A h h1
theorem two_hi {α : Type} (A B : S512x2048.Idx → α) (i : S1024x2048.Idx) (k : S512x2048.Idx) (h : (i 0).val = 512 + (k 0).val)
    (h1 : (i 1).val = (k 1).val) : two A B i = B k := by
  unfold two; rw [dif_neg (by omega)]; exact at2 B (show (i 0).val - 512 = _ by omega) h1
theorem four_at0 {α : Type} (A B C D : S256x2048.Idx → α) (i : S1024x2048.Idx) (k : S256x2048.Idx) (h : (i 0).val = (k 0).val)
    (h1 : (i 1).val = (k 1).val) : four A B C D i = A k := by
  have hk := lt2_0 k
  unfold four; rw [dif_pos (by omega)]; exact at2 A h h1
theorem four_at1 {α : Type} (A B C D : S256x2048.Idx → α) (i : S1024x2048.Idx) (k : S256x2048.Idx) (h : (i 0).val = 256 + (k 0).val)
    (h1 : (i 1).val = (k 1).val) : four A B C D i = B k := by
  have hk := lt2_0 k
  unfold four; rw [dif_neg (by omega), dif_pos (by omega)]; exact at2 B (show (i 0).val - 256 = _ by omega) h1
theorem four_at2 {α : Type} (A B C D : S256x2048.Idx → α) (i : S1024x2048.Idx) (k : S256x2048.Idx) (h : (i 0).val = 512 + (k 0).val)
    (h1 : (i 1).val = (k 1).val) : four A B C D i = C k := by
  have hk := lt2_0 k
  unfold four; rw [dif_neg (by omega), dif_neg (by omega), dif_pos (by omega)]; exact at2 C (show (i 0).val - 512 = _ by omega) h1
theorem four_at3 {α : Type} (A B C D : S256x2048.Idx → α) (i : S1024x2048.Idx) (k : S256x2048.Idx) (h : (i 0).val = 768 + (k 0).val)
    (h1 : (i 1).val = (k 1).val) : four A B C D i = D k := by
  have hk := lt2_0 k
  unfold four; rw [dif_neg (by omega), dif_neg (by omega), dif_neg (by omega)]; exact at2 D (show (i 0).val - 768 = _ by omega) h1

theorem two_0 (A B : Vec F S512x2048 .f32) : ldH0 (two A B) = A :=
  funext fun y => two_lo A B _ y (show 0 + 1 * (y 0).val = _ by omega) (show 0 + 1 * (y 1).val = _ by omega)
theorem two_1 (A B : Vec F S512x2048 .f32) : ldH1 (two A B) = B :=
  funext fun y => two_hi A B _ y (show 512 + 1 * (y 0).val = _ by omega) (show 0 + 1 * (y 1).val = _ by omega)
theorem four_0 (A B C D : Vec F S256x2048 .f32) : ldQ0 (four A B C D) = A :=
  funext fun y => four_at0 A B C D _ y (show 0 + 1 * (y 0).val = _ by omega) (show 0 + 1 * (y 1).val = _ by omega)
theorem four_1 (A B C D : Vec F S256x2048 .f32) : ldQ1 (four A B C D) = B :=
  funext fun y => four_at1 A B C D _ y (show 256 + 1 * (y 0).val = _ by omega) (show 0 + 1 * (y 1).val = _ by omega)
theorem four_2 (A B C D : Vec F S256x2048 .f32) : ldQ2 (four A B C D) = C :=
  funext fun y => four_at2 A B C D _ y (show 512 + 1 * (y 0).val = _ by omega) (show 0 + 1 * (y 1).val = _ by omega)
theorem four_3 (A B C D : Vec F S256x2048 .f32) : ldQ3 (four A B C D) = D :=
  funext fun y => four_at3 A B C D _ y (show 768 + 1 * (y 0).val = _ by omega) (show 0 + 1 * (y 1).val = _ by omega)

/-- The whole accumulator read whole is itself. -/
theorem ldO_eq (f : Vec F S1024x2048 .f32) : ldO f = f :=
  Memref.readAt_unit_zero (Elt F) cc0_scratch5 (off := ![0, 0]) (funext fun a => by fin_cases a <;> rfl) _ f

end Cert.KProof

end
-- ==== Proof.Steps.lean ====
/-
# One rule per kind of step of the kernel

The library's rules for a local copy, a signal, a transfer to another device, a wait, a load and a store,
stated once at this kernel's cells and pieces. Each takes the persistent facts of the run (`env`) and what
the step uses, and gives the continuation what the step leaves.
-/
module

public import proofs.«01_k».proof.Proof.Proto
public import proofs.«01_k».proof.Proof.Reads

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited at. -/
def ow (c : Dev nD) (O : CellTallies nD τ sig Unit) : sProp 𝕄 := iprop(∃ W, owes (c : Thread nD τ) O W)

/-- The persistent facts of the run: every cell's invariant, that every cell is at round 0 or later, the levels. -/
def env (K : Dev nD × Fin 17 → ℕ) : sProp 𝕄 :=
  iprop((bigSep Finset.univ fun ck : Dev nD × Fin 17 => cellInv ER (Rd m) (K ck) (kcell ck))
    ∗ (bigSep Finset.univ fun ck : Dev nD × Fin 17 => reached ER (kcell ck) 0) ∗ levAts L lv)

instance env_persistent (K : Dev nD × Fin 17 → ℕ) : BI.Persistent (env m K) := by unfold env; infer_instance

section Env
variable (K : Dev nD × Fin 17 → ℕ)

theorem env_inv (ck : Dev nD × Fin 17) : env m K ⊢ cellInv ER (Rd m) (K ck) (kcell ck) := by
  have h : (bigSep Finset.univ fun ck : Dev nD × Fin 17 => cellInv ER (Rd m) (K ck) (kcell ck) : sProp 𝕄)
      ⊢ cellInv ER (Rd m) (K ck) (kcell ck) := bigSep_elim (Finset.mem_univ ck)
  unfold env; iintro ⟨H, -, -⟩; iapply h $$ H
theorem env_reached (ck : Dev nD × Fin 17) : env m K ⊢ reached ER (kcell ck) 0 := by
  have h : (bigSep Finset.univ fun ck : Dev nD × Fin 17 => reached ER (kcell ck) 0 : sProp 𝕄)
      ⊢ reached ER (kcell ck) 0 := bigSep_elim (Finset.mem_univ ck)
  unfold env; iintro ⟨-, H, -⟩; iapply h $$ H
theorem env_lev : env m K ⊢ levAts L lv := by unfold env; iintro ⟨-, -, H⟩; iexact H
theorem env_inv_s (c : Dev nD) (t : Fin 8) : env m K ⊢ cellInv ER (Rd m) (K (c, kS t)) (sCell c t) := by
  rw [sCell_eq]; exact env_inv m K (c, kS t)
theorem env_inv_r (c : Dev nD) (t : Fin 8) : env m K ⊢ cellInv ER (Rd m) (K (c, kR t)) (rCell c t) := by
  rw [rCell_eq]; exact env_inv m K (c, kR t)
theorem env_inv_b (c : Dev nD) : env m K ⊢ cellInv ER (Rd m) (K (c, 0)) (barCell c) := env_inv m K (c, 0)
theorem env_reached_s (c : Dev nD) (t : Fin 8) : env m K ⊢ reached ER (sCell c t) 0 := by
  rw [sCell_eq]; exact env_reached m K (c, kS t)
theorem env_reached_r (c : Dev nD) (t : Fin 8) : env m K ⊢ reached ER (rCell c t) 0 := by
  rw [rCell_eq]; exact env_reached m K (c, kR t)
theorem env_reached_b (c : Dev nD) : env m K ⊢ reached ER (barCell c) 0 := env_reached m K (c, 0)

end Env

/-! ## Writing through a view -/

/-- Holding a view's elements after a write is holding them at any contents that read back what was written. -/
theorem write_agree {sp : Space} {s : Shape} {e : EltTy} (v : View sig .tc sp s e)
    (S : Finset v.ty.Idx) (hS : v.set = S) (fd G : v.ty.Contents (Elt F)) (w : s.Idx → Elt F e) (hG : v.read (Elt F) G = w) :
    ∀ i ∈ S, v.write (Elt F) fd w Finset.univ i = G i := fun i hi => by
  rw [← hG, View.write_read_eq_piecewise, View.setOn_univ, hS]
  exact Finset.piecewise_eq_of_mem _ _ _ hi

section Steps

variable (c : Dev nD) {α : Type}

/-- A load of elements held. -/
theorem ld {Q : α → sProp 𝕄} {cs : CoreSpace} {s : Shape} {e : EltTy} {b : Memref sig .tc cs s e} {r : Rect s} {hl : b.view.LoadsAt r}
    {k : (r.shape.Idx → Elt F e) → Prog (TpuEff nD τ sig (Elt F) Λ₀ .tc) α}
    {S : Finset (Idx (b.view.loc (c : Thread nD τ)))} {f : Buf (Elt F) (b.view.loc (c : Thread nD τ))} (hS : (b.access r).set = S) :
    (b.view.loc (c : Thread nD τ) ↦[S]{fullShare} f)
      ⊢ iprop(((b.view.loc (c : Thread nD τ) ↦[S]{fullShare} f) -∗ wpc c (k (b.view.readAt (Elt F) r f)) Q)
        -∗ wpc c (.op (.load b r hl) k) Q) :=
  wp_load 𝒱₀ (c : Thread nD τ) none Set.univ (m := b) (by rw [← hS, View.set_slice]; exact Finset.Subset.refl _)

/-- A store into elements held: they are at any contents that read back what was stored. -/
theorem st {Q : α → sProp 𝕄} {cs : CoreSpace} {s : Shape} {e : EltTy} {b : Memref sig .tc cs s e} {r : Rect s} {w : r.shape.Idx → Elt F e}
    {hx : (b.access r).Stores Finset.univ} {hm : Finset.univ = Finset.univ ∨ ∀ a, r.stride a = 1}
    {k : PUnit → Prog (TpuEff nD τ sig (Elt F) Λ₀ .tc) α}
    {S : Finset (Idx (b.view.loc (c : Thread nD τ)))} {f : Buf (Elt F) (b.view.loc (c : Thread nD τ))} (hS : (b.access r).set = S)
    (G : Buf (Elt F) (b.view.loc (c : Thread nD τ))) (hG : (b.access r).read (Elt F) G = w) :
    (b.view.loc (c : Thread nD τ) ↦[S]{fullShare} f)
      ⊢ iprop(((b.view.loc (c : Thread nD τ) ↦[S]{fullShare} G) -∗ wpc c (k ⟨⟩) Q)
        -∗ wpc c (.op (.store b r w Finset.univ hx hm) k) Q) := by
  rw [pointsTo_congr (f := G) (g := (b.access r).write (Elt F) f w Finset.univ)
    fun i hi => (write_agree (b.access r) S hS f G w hG i hi).symm]
  exact wp_store 𝒱₀ (c : Thread nD τ) none Set.univ (m := b) (r := r) (Mk := Finset.univ) (by rw [View.setOn_univ, hS])

/-! ## Local copies -/

/-- Starting a local copy: both ends and the semaphore at zero buy a flight that lands `G`, the contents of the
destination that read as the source reads, and gives the source back. -/
theorem start_copy {Q : α → sProp 𝕄} {sp sp' : Space} {s : Shape} {e : EltTy} {src : Memref sig .tc sp s e} {dst : Memref sig .tc sp' s e} {q : DmaSem sig}
    {hsrc : src.view.WordExact} {hdst : dst.view.WordExact} {hsem : DmaTarget.Typed (nD := nD) (τ := τ) (p := .tc) sp (.dma q) (.here dst)}
    {k : PUnit → Prog (TpuEff nD τ sig (Elt F) Λ₀ .tc) α}
    (N : ℕ) (hN : dst.view.dmaCredit = N) (hN0 : 0 < N)
    {S : Finset (Idx (src.view.loc (c : Thread nD τ)))} {T : Finset (Idx (dst.view.loc (c : Thread nD τ)))}
    (hS : src.view.set = S) (hT : dst.view.set = T)
    {f : Buf (Elt F) (src.view.loc (c : Thread nD τ))} {fd : Buf (Elt F) (dst.view.loc (c : Thread nD τ))}
    (G : Buf (Elt F) (dst.view.loc (c : Thread nD τ))) (hG : dst.view.read (Elt F) G = src.view.read (Elt F) f) :
    iprop((src.view.loc (c : Thread nD τ) ↦[S]{fullShare} f) ∗ (dst.view.loc (c : Thread nD τ) ↦[T]{fullShare} fd) ∗ semVal ((c : Thread nD τ), .dma q) 0)
      ⊢ iprop((Flight EC (c : Thread nD τ) (.dma q) () N
            iprop((dst.view.loc (c : Thread nD τ) ↦[T]{fullShare} G) ∗ (src.view.loc (c : Thread nD τ) ↦[S]{fullShare} f)) -∗ wpc c (k ⟨⟩) Q)
        -∗ wpc c (.op (.enqueueDma src (.here dst) (.dma q) hsrc hdst hsem) k) Q) := by
  subst hS
  have h := Transfers.wp_dmaLocal (defs := defs₀ (F := F)) (Q := Q) EC 𝒱₀ (c : Thread nD τ) none (src := src) (via := .same) (dst := dst) (sm := .dma q)
    (hsrc := hsrc) (hdst := hdst) (hsem := hsem) (k := k) (q := fullShare) (fs := f) (fd := fd) (Sd := T) () N hN hN0 (by rw [hT])
  rw [pointsTo_congr (f := dst.view.write (Elt F) fd (ReadAs.same.apply (src.view.read (Elt F) f)) Finset.univ) (g := G)
    fun i hi => write_agree dst.view T hT fd G _ hG i hi] at h
  exact h

/-- The wait for a local copy: what the flight lands, and the semaphore at zero again. -/
theorem wait_copy {Q : α → sProp 𝕄} (K : Dev nD × Fin 17 → ℕ) {sp sp' : Space} {s s' : Shape} {e e' : EltTy} {q : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} (N : ℕ) (hN : dstw.view.dmaCredit = N) {D : sProp 𝕄}
    (O : CellTallies nD τ sig Unit) (hO : Above 0 O) (hl : lv ((c : Thread nD τ), .dma q) () = 0) :
    iprop(env m K ∗ Flight EC (c : Thread nD τ) (.dma q) () N D ∗ ow c O)
      ⊢ iprop(((D ∗ semVal ((c : Thread nD τ), .dma q) 0 ∗ ow c O) -∗ wpc c (k ⟨⟩) Q)
        -∗ wpc c (.op (.waitDma2 q srcw dstw hsrc hdst) k) Q) := by
  unfold ow
  iintro ⟨#He, HF, ⟨%W, HO⟩⟩ Hk
  iapply (Transfers.wp_waitLocalO EC 𝒱₀ (c : Thread nD τ) none () hN (O := O) (W := W)) $$ [HF HO]
  · isplitl [HF]; · iexact HF
    isplitl [HO]; · iexact HO
    iapply (mayWait c _ 0 (le_of_eq hl) O hO)
    iapply (env_lev m K) $$ He
  iintro ⟨HD, HS, HO⟩
  iapply Hk
  isplitl [HD]; · iexact HD
  isplitl [HS]; · iexact HS
  iexists _; iexact HO

/-! ## The barrier -/

/-- A signal of duty `d` at device `n`'s barrier. -/
theorem signal {Q : α → sProp 𝕄} (K : Dev nD × Fin 17 → ℕ) (n : Dev nD) (d : Fin 3) {a : ℕ} (ha : 1 = a)
    {k : PUnit → Prog (TpuEff nD τ sig (Elt F) Λ₀ .tc) α} (O : CellTallies nD τ sig Unit) :
    iprop(env m K ∗ ow c (O + tallyAt (barCell n) () 1) ∗ dutyTok ER (barCell n) 0 d ∗ barPay n d)
      ⊢ iprop((ow c O -∗ wpc c (k ⟨⟩) Q) -∗ wpc c (.op (.semSignal (n : Thread nD τ) barS a) k) Q) := by
  subst ha
  unfold ow
  iintro ⟨#He, ⟨%W, HO⟩, Ht, Hp⟩ Hk
  iapply (Rounds.wp_signal 𝒱₀ ER (Rd m) (c : Thread nD τ) none (dst := (n : Thread nD τ)) (κ := K (n, 0))
      (d := d) (by rw [duties_bar]; exact Finset.mem_univ _) (amount_bar m n d) () O rfl) $$ [HO Ht Hp]
  · isplitr; · iapply (env_inv_b m K n) $$ He
    isplitl [HO]; · iexact HO
    isplitl [Ht]; · iexact Ht
    isplitl [Hp]; · rw [payload_bar]; iexact Hp
    iapply (env_reached_b m K n) $$ He
  iintro HO
  iapply Hk
  iexists W; iexact HO

/-- The wait at its own barrier for the three signals: the three slots its transfers write. -/
theorem wait_bar {Q : α → sProp 𝕄} (K : Dev nD × Fin 17 → ℕ) {a : ℕ} (ha : 3 = a)
    {k : PUnit → Prog (TpuEff nD τ sig (Elt F) Λ₀ .tc) α} (O : CellTallies nD τ sig Unit) (hO : Above 1 O) :
    iprop(env m K ∗ cred (tallyAt (barCell c) () 3) ∗ ow c O ∗ atPos ER (barCell c) 0 ∅ 0)
      ⊢ iprop(((ow c O ∗ atPos ER (barCell c) 1 ∅ 0 ∗ barPay c 0 ∗ barPay c 1 ∗ barPay c 2) -∗ wpc c (k ⟨⟩) Q)
        -∗ wpc c (.op (.semWait barS a) k) Q) := by
  subst ha
  unfold ow
  iintro ⟨#He, Hc, ⟨%W, HO⟩, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iapply (env_inv_b m K c) $$ He
    isplitl [Hc]; · iexact Hc
    isplitl [HO]; · iexact HO
    isplitr
    · iapply (mayWait c _ 1 (le_of_eq (lv_bar c ())) O hO)
      iapply (env_lev m K) $$ He
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Transfers to other devices -/

theorem slot_lt (t : Fin 8) : slot t < 3 := by fin_cases t <;> decide

/-- Starting a half's transfer. -/
theorem send_half {Q : α → sProp 𝕄} (K : Dev nD × Fin 17 → ℕ) (n : Dev nD) (t : Fin 8) (j o : ℕ) (hn : n = pl c (j + 1)) (hj : j = slot t) (ho : o = row t)
    (hr : rows t = 512) (hA : amt t = nH) {q q' : DmaSem sig} (hq : q = sS t) (hq' : q' = rS t)
    {inb} {hs} {inb'} {hs'} {hsc} {hsrc} {hdst} {hsem}
    {k : PUnit → Prog (TpuEff nD τ sig (Elt F) Λ₀ .tc) α} (fd : FVec F S3x1024x1024 .fp8e5m2) :
    iprop(env m K ∗ sP c t (sC m c) ∗ rP (dst c t) t fd ∗ ow c (OS c t.val)
        ∗ dutyTok ER (sCell c t) 0 0 ∗ dutyTok ER (rCell (dst c t) t) 0 0)
      ⊢ iprop(((cred (tallyAt (sCell c t) () (amt t)) ∗ ow c (OS c (t.val + 1))) -∗ wpc c (k ⟨⟩) Q)
        -∗ wpc c (.op (.enqueueDma
            ((sM.slice (Rect.unit (s := S4x1024x1024) ![j, o, 0] S1x512x1024.size inb') hs').squeeze S512x1024 squeezes_S1x512x1024_S512x1024)
            (.remote (Dev.tc n)
              ((rM.slice (Rect.unit (s := S3x1024x1024) ![j, o, 0] S1x512x1024.size inb) hs).squeeze S512x1024 squeezes_S1x512x1024_S512x1024)
              (.dma q) hsc) (.dma q') hsrc hdst hsem) k) Q) := by
  subst hn hj ho hq hq'
  have hset : ((sM.slice (Rect.unit (s := S4x1024x1024) ![slot t, row t, 0] S1x512x1024.size inb') hs').squeeze S512x1024
      squeezes_S1x512x1024_S512x1024).view.set = sBox t := by
    unfold sBox; rw [hr]
    exact (View.set_reshape _ _).trans (slice_set cc0_scratch2 _ _ _)
  have hset' : ((rM.slice (Rect.unit (s := S3x1024x1024) ![slot t, row t, 0] S1x512x1024.size inb) hs).squeeze S512x1024
      squeezes_S1x512x1024_S512x1024).view.set = rBox t := by
    unfold rBox; rw [hr]
    exact (View.set_reshape _ _).trans (slice_set cc0_scratch3 _ _ _)
  unfold ow
  iintro ⟨#He, Hs, Hd, ⟨%W, HO⟩, Ht, Ht'⟩ Hk
  iapply (Rounds.wp_send_pointsTo 𝒱₀ ER (Rd m) (c : Thread nD τ) none (κ₁ := K (c, kS t)) (κ₂ := K (dst c t, kR t))
    (r₁ := 0) (r₂ := 0) (d₁ := 0) (d₂ := 0) (fd := fd) (q := fullShare) (fs := sC m c) (W := W)
    (by rw [duties_s]; exact Finset.mem_singleton_self _) (by rw [duties_r]; exact Finset.mem_singleton_self _)
    () () (amt t) (by rw [hA]) (amount_s m c t 0) (amount_r m (dst c t) t 0) (OS c (t.val + 1)) (OS_peel c t)
    (by rw [payload_s, hset]; exact BI.Entails.refl _)
    (by
      rw [payload_r, hset']
      exact Entails.of_eq (pointsTo_congr (write_agree ((rM.slice (Rect.unit (s := S3x1024x1024) ![slot t, row t, 0] S1x512x1024.size inb) hs).squeeze S512x1024
      squeezes_S1x512x1024_S512x1024).view (rBox t) hset' fd (rC m (dst c t)) _
        (read_half m c (slot t) (row t) (slot_lt t) inb inb' hs hs')))))
    $$ [Hs Hd HO Ht Ht']
  · isplitr; · iapply (env_inv_s m K c t) $$ He
    isplitr; · iapply (env_inv_r m K (dst c t) t) $$ He
    isplitl [Hs]; · rw [hset]; unfold sP; iexact Hs
    isplitl [Hd]; · rw [hset']; unfold rP; iexact Hd
    isplitl [HO]; · iexact HO
    isplitl [Ht]; · iexact Ht
    isplitr; · iapply (env_reached_s m K c t) $$ He
    isplitl [Ht']; · iexact Ht'
    iapply (env_reached_r m K (dst c t) t) $$ He
  iintro ⟨Hc, HO⟩
  iapply Hk
  isplitl [Hc]; · iexact Hc
  iexists W; iexact HO

/-- Starting a quarter's transfer. -/
theorem send_quarter {Q : α → sProp 𝕄} (K : Dev nD × Fin 17 → ℕ) (n : Dev nD) (t : Fin 8) (j o : ℕ) (hn : n = pl c (j + 1)) (hj : j = slot t) (ho : o = row t)
    (hr : rows t = 256) (hA : amt t = nQ) {q q' : DmaSem sig} (hq : q = sS t) (hq' : q' = rS t)
    {inb} {hs} {inb'} {hs'} {hsc} {hsrc} {hdst} {hsem}
    {k : PUnit → Prog (TpuEff nD τ sig (Elt F) Λ₀ .tc) α} (fd : FVec F S3x1024x1024 .fp8e5m2) :
    iprop(env m K ∗ sP c t (sC m c) ∗ rP (dst c t) t fd ∗ ow c (OS c t.val)
        ∗ dutyTok ER (sCell c t) 0 0 ∗ dutyTok ER (rCell (dst c t) t) 0 0)
      ⊢ iprop(((cred (tallyAt (sCell c t) () (amt t)) ∗ ow c (OS c (t.val + 1))) -∗ wpc c (k ⟨⟩) Q)
        -∗ wpc c (.op (.enqueueDma
            ((sM.slice (Rect.unit (s := S4x1024x1024) ![j, o, 0] S1x256x1024.size inb') hs').squeeze S256x1024 squeezes_S1x256x1024_S256x1024)
            (.remote (Dev.tc n)
              ((rM.slice (Rect.unit (s := S3x1024x1024) ![j, o, 0] S1x256x1024.size inb) hs).squeeze S256x1024 squeezes_S1x256x1024_S256x1024)
              (.dma q) hsc) (.dma q') hsrc hdst hsem) k) Q) := by
  subst hn hj ho hq hq'
  have hset : ((sM.slice (Rect.unit (s := S4x1024x1024) ![slot t, row t, 0] S1x256x1024.size inb') hs').squeeze S256x1024
      squeezes_S1x256x1024_S256x1024).view.set = sBox t := by
    unfold sBox; rw [hr]
    exact (View.set_reshape _ _).trans (slice_set cc0_scratch2 _ _ _)
  have hset' : ((rM.slice (Rect.unit (s := S3x1024x1024) ![slot t, row t, 0] S1x256x1024.size inb) hs).squeeze S256x1024
      squeezes_S1x256x1024_S256x1024).view.set = rBox t := by
    unfold rBox; rw [hr]
    exact (View.set_reshape _ _).trans (slice_set cc0_scratch3 _ _ _)
  unfold ow
  iintro ⟨#He, Hs, Hd, ⟨%W, HO⟩, Ht, Ht'⟩ Hk
  iapply (Rounds.wp_send_pointsTo 𝒱₀ ER (Rd m) (c : Thread nD τ) none (κ₁ := K (c, kS t)) (κ₂ := K (dst c t, kR t))
    (r₁ := 0) (r₂ := 0) (d₁ := 0) (d₂ := 0) (fd := fd) (q := fullShare) (fs := sC m c) (W := W)
    (by rw [duties_s]; exact Finset.mem_singleton_self _) (by rw [duties_r]; exact Finset.mem_singleton_self _)
    () () (amt t) (by rw [hA]) (amount_s m c t 0) (amount_r m (dst c t) t 0) (OS c (t.val + 1)) (OS_peel c t)
    (by rw [payload_s, hset]; exact BI.Entails.refl _)
    (by
      rw [payload_r, hset']
      exact Entails.of_eq (pointsTo_congr (write_agree ((rM.slice (Rect.unit (s := S3x1024x1024) ![slot t, row t, 0] S1x256x1024.size inb) hs).squeeze S256x1024
      squeezes_S1x256x1024_S256x1024).view (rBox t) hset' fd (rC m (dst c t)) _
        (read_quarter m c (slot t) (row t) (slot_lt t) inb inb' hs hs')))))
    $$ [Hs Hd HO Ht Ht']
  · isplitr; · iapply (env_inv_s m K c t) $$ He
    isplitr; · iapply (env_inv_r m K (dst c t) t) $$ He
    isplitl [Hs]; · rw [hset]; unfold sP; iexact Hs
    isplitl [Hd]; · rw [hset']; unfold rP; iexact Hd
    isplitl [HO]; · iexact HO
    isplitl [Ht]; · iexact Ht
    isplitr; · iapply (env_reached_s m K c t) $$ He
    isplitl [Ht']; · iexact Ht'
    iapply (env_reached_r m K (dst c t) t) $$ He
  iintro ⟨Hc, HO⟩
  iapply Hk
  isplitl [Hc]; · iexact Hc
  iexists W; iexact HO

/-- The wait at a send semaphore: the piece sent is the device's again. -/
theorem wait_send {Q : α → sProp 𝕄} (K : Dev nD × Fin 17 → ℕ) (t : Fin 8) {sp sp' : Space} {s s' : Shape} {e e' : EltTy} {q : DmaSem sig} (hq : q = sS t)
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = amt t) :
    iprop(env m K ∗ cred (tallyAt (sCell c t) () (amt t)) ∗ ow c 0 ∗ atPos ER (sCell c t) 0 ∅ 0)
      ⊢ iprop(((ow c 0 ∗ atPos ER (sCell c t) 1 ∅ 0 ∗ sP c t (sC m c)) -∗ wpc c (k ⟨⟩) Q)
        -∗ wpc c (.op (.waitDma2 q srcw dstw hsrc hdst) k) Q) := by
  subst hq
  unfold ow
  rw [← hN]
  iintro ⟨#He, Hc, ⟨%W, HO⟩, Hat⟩ Hk
  iapply (Rounds.wp_wait_rest_token 𝒱₀ ER (Rd m) (c : Thread nD τ) none (κ := K (c, kS t))
      (wpE_waitDma2_eq 𝒱₀ (c : Thread nD τ) none Set.univ) (Set.mem_univ _) () (O := 0) (W := W) (R := 0) (m := 0) (T := ∅)
      (by rw [Nat.zero_add]; exact hN.trans (expect_s m c t).symm)) $$ [Hc HO Hat]
  · isplitr; · iapply (env_inv_s m K c t) $$ He
    isplitl [Hc]; · iexact Hc
    isplitl [HO]; · iexact HO
    isplitr; · rw [MayWait_zero]; iempintro
    iexact Hat
  iintro ⟨HO, Hat, -, Hpay⟩
  ihave Hp := (Entails.of_eq (rest_s m c t)) $$ Hpay
  iapply Hk
  isplitl [HO]; · iexists _; iexact HO
  isplitl [Hat]; · iexact Hat
  iexact Hp

/-- The wait at a receive semaphore: the piece received, holding what was sent. -/
theorem wait_recv {Q : α → sProp 𝕄} (K : Dev nD × Fin 17 → ℕ) (t : Fin 8) {sp sp' : Space} {s s' : Shape} {e e' : EltTy} {q : DmaSem sig} (hq : q = rS t)
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = amt t) :
    iprop(env m K ∗ cred (tallyAt (rCell c t) () (amt t)) ∗ ow c 0 ∗ atPos ER (rCell c t) 0 ∅ 0)
      ⊢ iprop(((ow c 0 ∗ atPos ER (rCell c t) 1 ∅ 0 ∗ rP c t (rC m c)) -∗ wpc c (k ⟨⟩) Q)
        -∗ wpc c (.op (.waitDma2 q srcw dstw hsrc hdst) k) Q) := by
  subst hq
  unfold ow
  rw [← hN]
  iintro ⟨#He, Hc, ⟨%W, HO⟩, Hat⟩ Hk
  iapply (Rounds.wp_wait_rest_token 𝒱₀ ER (Rd m) (c : Thread nD τ) none (κ := K (c, kR t))
      (wpE_waitDma2_eq 𝒱₀ (c : Thread nD τ) none Set.univ) (Set.mem_univ _) () (O := 0) (W := W) (R := 0) (m := 0) (T := ∅)
      (by rw [Nat.zero_add]; exact hN.trans (expect_r m c t).symm)) $$ [Hc HO Hat]
  · isplitr; · iapply (env_inv_r m K c t) $$ He
    isplitl [Hc]; · iexact Hc
    isplitl [HO]; · iexact HO
    isplitr; · rw [MayWait_zero]; iempintro
    iexact Hat
  iintro ⟨HO, Hat, -, Hpay⟩
  ihave Hp := (Entails.of_eq (rest_r m c t)) $$ Hpay
  iapply Hk
  isplitl [HO]; · iexists _; iexact HO
  isplitl [Hat]; · iexact Hat
  iexact Hp

end Steps

end Cert.KProof

end
-- ==== Proof.Pieces.lean ====
/-
# The pieces of the buffers, and the local copies between them

Each array is held in the pieces the kernel's copies, loads and stores move; every piece is held at the contents of
the whole array, so pieces are cut and joined without changing what they say.
-/
module

public import proofs.«01_k».proof.Proof.Steps

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The pieces -/

/-- Slot `j` of the `x` staging buffer, of the `w` one, of the send buffer, of the rounded weights. -/
abbrev xP (c : Dev nD) (j : ℕ) (f : Vec F S4x1024x1024 .f32) : sProp 𝕄 :=
  xM.view.loc (c : Thread nD τ) ↦[box S4x1024x1024 ![j, 0, 0] ![1, 1024, 1024]]{fullShare} f
abbrev wP (c : Dev nD) (j : ℕ) (f : Vec F S2x1024x2048 .f32) : sProp 𝕄 :=
  wM.view.loc (c : Thread nD τ) ↦[box S2x1024x2048 ![j, 0, 0] ![1, 1024, 2048]]{fullShare} f
abbrev sQ (c : Dev nD) (j : ℕ) (f : FVec F S4x1024x1024 .fp8e5m2) : sProp 𝕄 :=
  sM.view.loc (c : Thread nD τ) ↦[box S4x1024x1024 ![j, 0, 0] ![1, 1024, 1024]]{fullShare} f
abbrev vP (c : Dev nD) (j : ℕ) (f : FVec F S4x1024x2048 .fp8e5m2) : sProp 𝕄 :=
  vM.view.loc (c : Thread nD τ) ↦[box S4x1024x2048 ![j, 0, 0] ![1, 1024, 2048]]{fullShare} f
/-- A slot of the receive buffer. -/
abbrev rQ (c : Dev nD) (j : ℕ) (f : FVec F S3x1024x1024 .fp8e5m2) : sProp 𝕄 :=
  rM.view.loc (c : Thread nD τ) ↦[box S3x1024x1024 ![j, 0, 0] ![1, 1024, 1024]]{fullShare} f
/-- Row block `c + n` of the device's `x`, and of its `w`. -/
abbrev aP (c : Dev nD) (n : ℕ) : sProp 𝕄 :=
  aM.view.loc (c : Thread nD τ) ↦[box S4096x1024 ![1024 * ((c.val + n) % 4), 0] ![1024, 1024]]{fullShare} xv m c
abbrev bP (c : Dev nD) (n : ℕ) : sProp 𝕄 :=
  bM.view.loc (c : Thread nD τ) ↦[box S4096x2048 ![1024 * ((c.val + n) % 4), 0] ![1024, 2048]]{fullShare} wv m c
/-- `n` rows of the accumulator from row `r`, and of the result. -/
abbrev oP (c : Dev nD) (r n : ℕ) (f : Vec F S1024x2048 .f32) : sProp 𝕄 :=
  oM.view.loc (c : Thread nD τ) ↦[box S1024x2048 ![r, 0] ![n, 2048]]{fullShare} f
abbrev yP (c : Dev nD) (r n : ℕ) (f : Vec F S1024x2048 .f32) : sProp 𝕄 :=
  yM.view.loc (c : Thread nD τ) ↦[box S1024x2048 ![r, 0] ![n, 2048]]{fullShare} f
/-- A local copy's semaphore at zero. -/
abbrev lz (c : Dev nD) (i : Fin 12) : sProp 𝕄 := semVal ((c : Thread nD τ), .dma (lS i)) 0

/-- The two scales in scalar memory, and what loading them reads. -/
abbrev g2P (c : Dev nD) (f : Vec F S1 .f32) : sProp 𝕄 := g2M.view.loc (c : Thread nD τ) ↦{fullShare} f
abbrev g3P (c : Dev nD) (f : Vec F S1 .f32) : sProp 𝕄 := g3M.view.loc (c : Thread nD τ) ↦{fullShare} f
abbrev rd2 (f : Vec F S1 .f32) : F .f32 :=
  g2M.view.readAt (Elt F) (Rect.unit (s := S1) ![0] S1.size inb_S1_S1_0).toLoadRect f (Shape.Idx.first (numel1_S1.symm ▸ Nat.one_pos))
abbrev rd3 (f : Vec F S1 .f32) : F .f32 :=
  g3M.view.readAt (Elt F) (Rect.unit (s := S1) ![0] S1.size inb_S1_S1_0).toLoadRect f (Shape.Idx.first (numel1_S1.symm ▸ Nat.one_pos))

/-! ## The flights -/

abbrev nX : ℕ := ((xM.slice (Rect.unit (s := S4x1024x1024) ![0, 0, 0] S1x1024x1024.size inb_S4x1024x1024_S1x1024x1024_0_0_0) (fun _ => rfl)).squeeze
  S1024x1024 squeezes_S1x1024x1024_S1024x1024).view.dmaCredit
abbrev nW : ℕ := ((wM.slice (Rect.unit (s := S2x1024x2048) ![0, 0, 0] S1x1024x2048.size inb_S2x1024x2048_S1x1024x2048_0_0_0) (fun _ => rfl)).squeeze
  S1024x2048 squeezes_S1x1024x2048_S1024x2048).view.dmaCredit
abbrev nY : ℕ := (yM.slice (Rect.unit (s := S1024x2048) ![0, 0] S256x2048.size inb_S1024x2048_S256x2048_0_0) (fun _ => rfl)).view.dmaCredit

theorem nX_pos : 0 < nX := View.dmaCredit_pos _ (by decide)
theorem nW_pos : 0 < nW := View.dmaCredit_pos _ (by decide)
theorem nY_pos : 0 < nY := View.dmaCredit_pos _ (by decide)

/-- The copy of an `x` block under way, of a `w` block, of a quarter of the result. -/
def xF (c : Dev nD) (i : Fin 12) (j : ℕ) : sProp 𝕄 :=
  Flight EC (c : Thread nD τ) (.dma (lS i)) () nX iprop(xP c j (xC m c) ∗ aP m c (j + 1))
def wF (c : Dev nD) (i : Fin 12) (j k : ℕ) : sProp 𝕄 :=
  Flight EC (c : Thread nD τ) (.dma (lS i)) () nW iprop(wP c j (wC m c k) ∗ bP m c k)
def yF (c : Dev nD) (i : Fin 12) (r : ℕ) (f : Vec F S1024x2048 .f32) : sProp 𝕄 :=
  Flight EC (c : Thread nD τ) (.dma (lS i)) () nY iprop(yP c r 256 f ∗ oP c r 256 f)

theorem lv_l (c : Dev nD) (i : Fin 12) : lv ((c : Thread nD τ), .dma (lS i)) () = 0 := by
  unfold lv; fin_cases i <;> rfl

section Copies
variable (c : Dev nD) {α : Type}

/-- A program that has returned. -/
theorem wpc_ret {Q : α → sProp 𝕄} (a : α) : Q a ⊢ wpc c (Prog.ret a) Q := by
  show _ ⊢ wp frame (wpE (defs₀ (F := F)) 𝒱₀ (c : Thread nD τ) none) Set.univ (Prog.ret a) Q
  rw [wp_ret]; exact BI.fupd_intro

/-- Starting the copy of row block `c + j + 1` of `x` into slot `j`. -/
theorem start_x {Q : α → sProp 𝕄} (i : Fin 12) (j : ℕ) (o : Fin 2 → ℕ) (ho : o = ![1024 * ((c.val + j + 1) % 4), 0]) {q : DmaSem sig} (hq : q = lS i)
    {inb} {hs} {inb'} {hs'} {hsrc} {hdst} {hsem} {k : PUnit → Prog (TpuEff nD τ sig (Elt F) Λ₀ .tc) α} :
    iprop(aP m c (j + 1) ∗ (∃ f, xP c j f) ∗ lz c i)
      ⊢ iprop((xF m c i j -∗ wpc c (k ⟨⟩) Q)
        -∗ wpc c (.op (.enqueueDma (aM.slice (Rect.unit (s := S4096x1024) o S1024x1024.size inb') hs')
            (.here ((xM.slice (Rect.unit (s := S4x1024x1024) ![j, 0, 0] S1x1024x1024.size inb) hs).squeeze S1024x1024
              squeezes_S1x1024x1024_S1024x1024)) (.dma q) hsrc hdst hsem) k) Q) := by
  subst hq
  have hS : (aM.slice (Rect.unit (s := S4096x1024) o S1024x1024.size inb') hs').view.set
      = box S4096x1024 ![1024 * ((c.val + (j + 1)) % 4), 0] ![1024, 1024] := by
    subst ho; exact slice_set main_arg0 _ _ _
  have hT : ((xM.slice (Rect.unit (s := S4x1024x1024) ![j, 0, 0] S1x1024x1024.size inb) hs).squeeze S1024x1024
      squeezes_S1x1024x1024_S1024x1024).view.set = box S4x1024x1024 ![j, 0, 0] ![1, 1024, 1024] :=
    (View.set_reshape _ _).trans (slice_set cc0_scratch0 _ _ _)
  have hN : ((xM.slice (Rect.unit (s := S4x1024x1024) ![j, 0, 0] S1x1024x1024.size inb) hs).squeeze S1024x1024
      squeezes_S1x1024x1024_S1024x1024).view.dmaCredit = nX := rfl
  iintro ⟨Ha, ⟨%fd, Hx⟩, Hz⟩ Hk
  unfold xF
  iapply (start_copy c nX hN nX_pos hS hT (fd := fd) (xC m c) (read_x m c j o ho inb inb' hs hs')) $$ [Ha Hx Hz]
  · isplitl [Ha]; · iexact Ha
    isplitl [Hx] <;> iassumption
  iexact Hk

/-- The wait for it. -/
theorem wait_x {Q : α → sProp 𝕄} (K : Dev nD × Fin 17 → ℕ) (i : Fin 12) (j : ℕ) {q : DmaSem sig} (hq : q = lS i)
    {sp' : Space} {s' : Shape} {e' : EltTy} {srcw : Memref sig .tc sp' s' e'} {hsrc : srcw.view.WordExact} {inb} {hs} {hdst}
    {k : PUnit → Prog (TpuEff nD τ sig (Elt F) Λ₀ .tc) α}
    (O : CellTallies nD τ sig Unit) (hO : Above 0 O) :
    iprop(env m K ∗ xF m c i j ∗ ow c O)
      ⊢ iprop(((xP c j (xC m c) ∗ aP m c (j + 1) ∗ lz c i ∗ ow c O) -∗ wpc c (k ⟨⟩) Q)
        -∗ wpc c (.op (.waitDma2 q srcw
          ((xM.slice (Rect.unit (s := S4x1024x1024) ![j, 0, 0] S1x1024x1024.size inb) hs).squeeze S1024x1024
            squeezes_S1x1024x1024_S1024x1024) hsrc hdst) k) Q) := by
  subst hq; unfold xF
  have hN : ((xM.slice (Rect.unit (s := S4x1024x1024) ![j, 0, 0] S1x1024x1024.size inb) hs).squeeze S1024x1024
      squeezes_S1x1024x1024_S1024x1024).view.dmaCredit = nX := rfl
  iintro ⟨He, HF, HO⟩ Hk
  iapply (wait_copy m c K nX hN O hO (lv_l c i)) $$ [He HF HO]
  · isplitl [He]; · iexact He
    isplitl [HF] <;> iassumption
  iintro ⟨⟨Hx, Ha⟩, Hz, HO⟩
  iapply Hk
  isplitl [Hx]; · iexact Hx
  isplitl [Ha]; · iexact Ha
  isplitl [Hz] <;> iassumption

/-- Starting the copy of row block `c + n` of `w` into slot `j`. -/
theorem start_w {Q : α → sProp 𝕄} (i : Fin 12) (j n : ℕ) (o : Fin 2 → ℕ) (ho : o = ![1024 * ((c.val + n) % 4), 0]) {q : DmaSem sig} (hq : q = lS i)
    {inb} {hs} {inb'} {hs'} {hsrc} {hdst} {hsem} {k : PUnit → Prog (TpuEff nD τ sig (Elt F) Λ₀ .tc) α} :
    iprop(bP m c n ∗ (∃ f, wP c j f) ∗ lz c i)
      ⊢ iprop((wF m c i j n -∗ wpc c (k ⟨⟩) Q)
        -∗ wpc c (.op (.enqueueDma (bM.slice (Rect.unit (s := S4096x2048) o S1024x2048.size inb') hs')
            (.here ((wM.slice (Rect.unit (s := S2x1024x2048) ![j, 0, 0] S1x1024x2048.size inb) hs).squeeze S1024x2048
              squeezes_S1x1024x2048_S1024x2048)) (.dma q) hsrc hdst hsem) k) Q) := by
  subst hq
  have hS : (bM.slice (Rect.unit (s := S4096x2048) o S1024x2048.size inb') hs').view.set
      = box S4096x2048 ![1024 * ((c.val + n) % 4), 0] ![1024, 2048] := by
    subst ho; exact slice_set main_arg1 _ _ _
  have hT : ((wM.slice (Rect.unit (s := S2x1024x2048) ![j, 0, 0] S1x1024x2048.size inb) hs).squeeze S1024x2048
      squeezes_S1x1024x2048_S1024x2048).view.set = box S2x1024x2048 ![j, 0, 0] ![1, 1024, 2048] :=
    (View.set_reshape _ _).trans (slice_set cc0_scratch1 _ _ _)
  have hN : ((wM.slice (Rect.unit (s := S2x1024x2048) ![j, 0, 0] S1x1024x2048.size inb) hs).squeeze S1024x2048
      squeezes_S1x1024x2048_S1024x2048).view.dmaCredit = nW := rfl
  iintro ⟨Ha, ⟨%fd, Hx⟩, Hz⟩ Hk
  unfold wF
  iapply (start_copy c nW hN nW_pos hS hT (fd := fd) (wC m c n) (read_w m c j n o ho inb inb' hs hs')) $$ [Ha Hx Hz]
  · isplitl [Ha]; · iexact Ha
    isplitl [Hx] <;> iassumption
  iexact Hk

/-- The wait for it. -/
theorem wait_w {Q : α → sProp 𝕄} (K : Dev nD × Fin 17 → ℕ) (i : Fin 12) (j n : ℕ) {q : DmaSem sig} (hq : q = lS i)
    {sp' : Space} {s' : Shape} {e' : EltTy} {srcw : Memref sig .tc sp' s' e'} {hsrc : srcw.view.WordExact} {inb} {hs} {hdst}
    {k : PUnit → Prog (TpuEff nD τ sig (Elt F) Λ₀ .tc) α}
    (O : CellTallies nD τ sig Unit) (hO : Above 0 O) :
    iprop(env m K ∗ wF m c i j n ∗ ow c O)
      ⊢ iprop(((wP c j (wC m c n) ∗ bP m c n ∗ lz c i ∗ ow c O) -∗ wpc c (k ⟨⟩) Q)
        -∗ wpc c (.op (.waitDma2 q srcw
          ((wM.slice (Rect.unit (s := S2x1024x2048) ![j, 0, 0] S1x1024x2048.size inb) hs).squeeze S1024x2048
            squeezes_S1x1024x2048_S1024x2048) hsrc hdst) k) Q) := by
  subst hq; unfold wF
  have hN : ((wM.slice (Rect.unit (s := S2x1024x2048) ![j, 0, 0] S1x1024x2048.size inb) hs).squeeze S1024x2048
      squeezes_S1x1024x2048_S1024x2048).view.dmaCredit = nW := rfl
  iintro ⟨He, HF, HO⟩ Hk
  iapply (wait_copy m c K nW hN O hO (lv_l c i)) $$ [He HF HO]
  · isplitl [He]; · iexact He
    isplitl [HF] <;> iassumption
  iintro ⟨⟨Hx, Ha⟩, Hz, HO⟩
  iapply Hk
  isplitl [Hx]; · iexact Hx
  isplitl [Ha]; · iexact Ha
  isplitl [Hz] <;> iassumption

/-- A quarter of the result read off the accumulator. -/
theorem read_y (r : ℕ) (f : Vec F S1024x2048 .f32) (inb) (hs) (inb') (hs') :
    (yM.slice (Rect.unit (s := S1024x2048) ![r, 0] S256x2048.size inb) hs).view.read (Elt F) f
      = (oM.slice (Rect.unit (s := S1024x2048) ![r, 0] S256x2048.size inb') hs').view.read (Elt F) f := rfl

/-- Starting the copy of the accumulator's quarter at row `r` into the result. -/
theorem start_y {Q : α → sProp 𝕄} (i : Fin 12) (r : ℕ) (f : Vec F S1024x2048 .f32) {q : DmaSem sig} (hq : q = lS i)
    {inb} {hs} {inb'} {hs'} {hsrc} {hdst} {hsem} {k : PUnit → Prog (TpuEff nD τ sig (Elt F) Λ₀ .tc) α} :
    iprop(oP c r 256 f ∗ (∃ g, yP c r 256 g) ∗ lz c i)
      ⊢ iprop((yF c i r f -∗ wpc c (k ⟨⟩) Q)
        -∗ wpc c (.op (.enqueueDma (oM.slice (Rect.unit (s := S1024x2048) ![r, 0] S256x2048.size inb') hs')
            (.here (yM.slice (Rect.unit (s := S1024x2048) ![r, 0] S256x2048.size inb) hs)) (.dma q) hsrc hdst hsem) k) Q) := by
  subst hq
  have hS : (oM.slice (Rect.unit (s := S1024x2048) ![r, 0] S256x2048.size inb') hs').view.set = box S1024x2048 ![r, 0] ![256, 2048] :=
    slice_set cc0_scratch5 _ _ _
  have hT : (yM.slice (Rect.unit (s := S1024x2048) ![r, 0] S256x2048.size inb) hs).view.set = box S1024x2048 ![r, 0] ![256, 2048] :=
    slice_set main_v1 _ _ _
  have hN : (yM.slice (Rect.unit (s := S1024x2048) ![r, 0] S256x2048.size inb) hs).view.dmaCredit = nY := rfl
  iintro ⟨Ha, ⟨%fd, Hx⟩, Hz⟩ Hk
  unfold yF
  iapply (start_copy c nY hN nY_pos hS hT (fd := fd) f (read_y r f inb hs inb' hs')) $$ [Ha Hx Hz]
  · isplitl [Ha]; · iexact Ha
    isplitl [Hx] <;> iassumption
  iexact Hk

/-- The wait for it. -/
theorem wait_y {Q : α → sProp 𝕄} (K : Dev nD × Fin 17 → ℕ) (i : Fin 12) (r : ℕ) (f : Vec F S1024x2048 .f32) {q : DmaSem sig} (hq : q = lS i)
    {sp' : Space} {s' : Shape} {e' : EltTy} {srcw : Memref sig .tc sp' s' e'} {hsrc : srcw.view.WordExact} {inb} {hs} {hdst}
    {k : PUnit → Prog (TpuEff nD τ sig (Elt F) Λ₀ .tc) α} :
    iprop(env m K ∗ yF c i r f ∗ ow c 0)
      ⊢ iprop(((yP c r 256 f ∗ oP c r 256 f ∗ lz c i ∗ ow c 0) -∗ wpc c (k ⟨⟩) Q)
        -∗ wpc c (.op (.waitDma2 q srcw
          (yM.slice (Rect.unit (s := S1024x2048) ![r, 0] S256x2048.size inb) hs) hsrc hdst) k) Q) := by
  subst hq; unfold yF
  have hN : (yM.slice (Rect.unit (s := S1024x2048) ![r, 0] S256x2048.size inb) hs).view.dmaCredit = nY := rfl
  iintro ⟨He, HF, HO⟩ Hk
  iapply (wait_copy m c K nY hN 0 (above_zero 0) (lv_l c i)) $$ [He HF HO]
  · isplitl [He]; · iexact He
    isplitl [HF] <;> iassumption
  iintro ⟨⟨Hx, Ha⟩, Hz, HO⟩
  iapply Hk
  isplitl [Hx]; · iexact Hx
  isplitl [Ha]; · iexact Ha
  isplitl [Hz] <;> iassumption

/-- The wait at the send semaphore of a half. -/
theorem wait_send_half {Q : α → sProp 𝕄} (K : Dev nD × Fin 17 → ℕ) (t : Fin 8) (hA : amt t = nH) {q : DmaSem sig} (hq : q = sS t)
    {sp' : Space} {s' : Shape} {e' : EltTy} {srcw : Memref sig .tc sp' s' e'} {hsrc : srcw.view.WordExact} {j o : ℕ} {inb} {hs} {hdst}
    {k : PUnit → Prog (TpuEff nD τ sig (Elt F) Λ₀ .tc) α} :
    iprop(env m K ∗ cred (tallyAt (sCell c t) () (amt t)) ∗ ow c 0 ∗ atPos ER (sCell c t) 0 ∅ 0)
      ⊢ iprop(((ow c 0 ∗ atPos ER (sCell c t) 1 ∅ 0 ∗ sP c t (sC m c)) -∗ wpc c (k ⟨⟩) Q)
        -∗ wpc c (.op (.waitDma2 q srcw
          ((sM.slice (Rect.unit (s := S4x1024x1024) ![j, o, 0] S1x512x1024.size inb) hs).squeeze S512x1024
            squeezes_S1x512x1024_S512x1024) hsrc hdst) k) Q) :=
  wait_send m c K t hq (by rw [hA])

/-- The wait at the recv semaphore of a half. -/
theorem wait_recv_half {Q : α → sProp 𝕄} (K : Dev nD × Fin 17 → ℕ) (t : Fin 8) (hA : amt t = nH) {q : DmaSem sig} (hq : q = rS t)
    {sp' : Space} {s' : Shape} {e' : EltTy} {srcw : Memref sig .tc sp' s' e'} {hsrc : srcw.view.WordExact} {j o : ℕ} {inb} {hs} {hdst}
    {k : PUnit → Prog (TpuEff nD τ sig (Elt F) Λ₀ .tc) α} :
    iprop(env m K ∗ cred (tallyAt (rCell c t) () (amt t)) ∗ ow c 0 ∗ atPos ER (rCell c t) 0 ∅ 0)
      ⊢ iprop(((ow c 0 ∗ atPos ER (rCell c t) 1 ∅ 0 ∗ rP c t (rC m c)) -∗ wpc c (k ⟨⟩) Q)
        -∗ wpc c (.op (.waitDma2 q srcw
          ((rM.slice (Rect.unit (s := S3x1024x1024) ![j, o, 0] S1x512x1024.size inb) hs).squeeze S512x1024
            squeezes_S1x512x1024_S512x1024) hsrc hdst) k) Q) :=
  wait_recv m c K t hq (by rw [hA])

/-- The wait at the send semaphore of a quarter. -/
theorem wait_send_quarter {Q : α → sProp 𝕄} (K : Dev nD × Fin 17 → ℕ) (t : Fin 8) (hA : amt t = nQ) {q : DmaSem sig} (hq : q = sS t)
    {sp' : Space} {s' : Shape} {e' : EltTy} {srcw : Memref sig .tc sp' s' e'} {hsrc : srcw.view.WordExact} {j o : ℕ} {inb} {hs} {hdst}
    {k : PUnit → Prog (TpuEff nD τ sig (Elt F) Λ₀ .tc) α} :
    iprop(env m K ∗ cred (tallyAt (sCell c t) () (amt t)) ∗ ow c 0 ∗ atPos ER (sCell c t) 0 ∅ 0)
      ⊢ iprop(((ow c 0 ∗ atPos ER (sCell c t) 1 ∅ 0 ∗ sP c t (sC m c)) -∗ wpc c (k ⟨⟩) Q)
        -∗ wpc c (.op (.waitDma2 q srcw
          ((sM.slice (Rect.unit (s := S4x1024x1024) ![j, o, 0] S1x256x1024.size inb) hs).squeeze S256x1024
            squeezes_S1x256x1024_S256x1024) hsrc hdst) k) Q) :=
  wait_send m c K t hq (by rw [hA])

/-- The wait at the recv semaphore of a quarter. -/
theorem wait_recv_quarter {Q : α → sProp 𝕄} (K : Dev nD × Fin 17 → ℕ) (t : Fin 8) (hA : amt t = nQ) {q : DmaSem sig} (hq : q = rS t)
    {sp' : Space} {s' : Shape} {e' : EltTy} {srcw : Memref sig .tc sp' s' e'} {hsrc : srcw.view.WordExact} {j o : ℕ} {inb} {hs} {hdst}
    {k : PUnit → Prog (TpuEff nD τ sig (Elt F) Λ₀ .tc) α} :
    iprop(env m K ∗ cred (tallyAt (rCell c t) () (amt t)) ∗ ow c 0 ∗ atPos ER (rCell c t) 0 ∅ 0)
      ⊢ iprop(((ow c 0 ∗ atPos ER (rCell c t) 1 ∅ 0 ∗ rP c t (rC m c)) -∗ wpc c (k ⟨⟩) Q)
        -∗ wpc c (.op (.waitDma2 q srcw
          ((rM.slice (Rect.unit (s := S3x1024x1024) ![j, o, 0] S1x256x1024.size inb) hs).squeeze S256x1024
            squeezes_S1x256x1024_S256x1024) hsrc hdst) k) Q) :=
  wait_recv m c K t hq (by rw [hA])

/-- Loading a received piece. -/
theorem ld_r {Q : α → sProp 𝕄} (t : Fin 8) {f : FVec F S3x1024x1024 .fp8e5m2} {r : Rect S3x1024x1024} {hl}
    {k : (r.shape.Idx → Elt F .fp8e5m2) → Prog (TpuEff nD τ sig (Elt F) Λ₀ .tc) α}
    (hS : (rM.access r).set = rBox t) :
    rP c t f ⊢ iprop((rP c t f -∗ wpc c (k (rM.view.readAt (Elt F) r f)) Q) -∗ wpc c (.op (.load rM r hl) k) Q) := by
  unfold rP; exact ld c hS

/-- Loading a scalar from scalar memory. -/
theorem ld_smem {Q : α → sProp 𝕄} {b : Memref sig .tc .smem S1 .f32} {r : Rect S1} {hl}
    {k : (r.shape.Idx → Elt F .f32) → Prog (TpuEff nD τ sig (Elt F) Λ₀ .tc) α} {f : Buf (Elt F) (b.view.loc (c : Thread nD τ))} :
    (b.view.loc (c : Thread nD τ) ↦{fullShare} f)
      ⊢ iprop(((b.view.loc (c : Thread nD τ) ↦{fullShare} f) -∗ wpc c (k (b.view.readAt (Elt F) r f)) Q) -∗ wpc c (.op (.load b r hl) k) Q) :=
  wp_load 𝒱₀ (c : Thread nD τ) none Set.univ (m := b) (Finset.subset_univ _)

end Copies

/-! ## Cutting and joining -/

/-- Elements held in two disjoint parts. -/
theorem pts_cut {ℓ : Loc nD τ sig} {S A B : Finset (Idx ℓ)} (f : Buf (Elt F) ℓ) (h : S = A ∪ B) (hd : Disjoint A B) :
    (ℓ ↦[S]{fullShare} f : sProp 𝕄) = iprop((ℓ ↦[A]{fullShare} f) ∗ (ℓ ↦[B]{fullShare} f)) := by
  subst h; exact BI.equiv_iff.mp ⟨(pointsTo_union hd).1, (pointsTo_union hd).2⟩

theorem pts_cut3 {ℓ : Loc nD τ sig} {S A B C : Finset (Idx ℓ)} (f : Buf (Elt F) ℓ) (h : S = A ∪ (B ∪ C)) (hd : Disjoint A (B ∪ C)) (hd' : Disjoint B C) :
    (ℓ ↦[S]{fullShare} f : sProp 𝕄) = iprop((ℓ ↦[A]{fullShare} f) ∗ (ℓ ↦[B]{fullShare} f) ∗ (ℓ ↦[C]{fullShare} f)) := by
  rw [pts_cut f h hd, pts_cut f rfl hd']
theorem pts_cut4 {ℓ : Loc nD τ sig} {S A B C D : Finset (Idx ℓ)} (f : Buf (Elt F) ℓ) (h : S = A ∪ (B ∪ (C ∪ D)))
    (hd : Disjoint A (B ∪ (C ∪ D))) (hd' : Disjoint B (C ∪ D)) (hd'' : Disjoint C D) :
    (ℓ ↦[S]{fullShare} f : sProp 𝕄)
      = iprop((ℓ ↦[A]{fullShare} f) ∗ (ℓ ↦[B]{fullShare} f) ∗ (ℓ ↦[C]{fullShare} f) ∗ (ℓ ↦[D]{fullShare} f)) := by
  rw [pts_cut f h hd, pts_cut3 f rfl hd' hd'']

/-- The send slots in the pieces the transfers read. -/
theorem cut_s0 (c : Dev nD) (f : FVec F S4x1024x1024 .fp8e5m2) : sQ c 0 f = iprop(sP c 0 f ∗ sP c 1 f) := by
  have h : (box S4x1024x1024 ![0, 0, 0] ![1, 1024, 1024] : Finset S4x1024x1024.Idx) = box S4x1024x1024 ![0, 0, 0] ![1, 512, 1024] ∪ (box S4x1024x1024 ![0, 512, 0] ![1, 512, 1024]) := by
    ext i; simp only [Finset.mem_union, mem_box3]; omega
  have d0 : Disjoint (box S4x1024x1024 ![0, 0, 0] ![1, 512, 1024] : Finset S4x1024x1024.Idx) (box S4x1024x1024 ![0, 512, 0] ![1, 512, 1024]) := by
    rw [Finset.disjoint_left]; intro i; simp only [Finset.mem_union, mem_box3]; omega
  exact pts_cut (ℓ := sM.view.loc (c : Thread nD τ)) f h d0

theorem cut_s2 (c : Dev nD) (f : FVec F S4x1024x1024 .fp8e5m2) : sQ c 2 f = iprop(sP c 2 f ∗ sP c 3 f) := by
  have h : (box S4x1024x1024 ![2, 0, 0] ![1, 1024, 1024] : Finset S4x1024x1024.Idx) = box S4x1024x1024 ![2, 0, 0] ![1, 512, 1024] ∪ (box S4x1024x1024 ![2, 512, 0] ![1, 512, 1024]) := by
    ext i; simp only [Finset.mem_union, mem_box3]; omega
  have d0 : Disjoint (box S4x1024x1024 ![2, 0, 0] ![1, 512, 1024] : Finset S4x1024x1024.Idx) (box S4x1024x1024 ![2, 512, 0] ![1, 512, 1024]) := by
    rw [Finset.disjoint_left]; intro i; simp only [Finset.mem_union, mem_box3]; omega
  exact pts_cut (ℓ := sM.view.loc (c : Thread nD τ)) f h d0

theorem cut_s1 (c : Dev nD) (f : FVec F S4x1024x1024 .fp8e5m2) : sQ c 1 f = iprop(sP c 4 f ∗ sP c 5 f ∗ sP c 6 f ∗ sP c 7 f) := by
  have h : (box S4x1024x1024 ![1, 0, 0] ![1, 1024, 1024] : Finset S4x1024x1024.Idx) = box S4x1024x1024 ![1, 0, 0] ![1, 256, 1024] ∪ (box S4x1024x1024 ![1, 256, 0] ![1, 256, 1024] ∪ (box S4x1024x1024 ![1, 512, 0] ![1, 256, 1024] ∪ (box S4x1024x1024 ![1, 768, 0] ![1, 256, 1024]))) := by
    ext i; simp only [Finset.mem_union, mem_box3]; omega
  have d0 : Disjoint (box S4x1024x1024 ![1, 0, 0] ![1, 256, 1024] : Finset S4x1024x1024.Idx) (box S4x1024x1024 ![1, 256, 0] ![1, 256, 1024] ∪ (box S4x1024x1024 ![1, 512, 0] ![1, 256, 1024] ∪ (box S4x1024x1024 ![1, 768, 0] ![1, 256, 1024]))) := by
    rw [Finset.disjoint_left]; intro i; simp only [Finset.mem_union, mem_box3]; omega
  have d1 : Disjoint (box S4x1024x1024 ![1, 256, 0] ![1, 256, 1024] : Finset S4x1024x1024.Idx) (box S4x1024x1024 ![1, 512, 0] ![1, 256, 1024] ∪ (box S4x1024x1024 ![1, 768, 0] ![1, 256, 1024])) := by
    rw [Finset.disjoint_left]; intro i; simp only [Finset.mem_union, mem_box3]; omega
  have d2 : Disjoint (box S4x1024x1024 ![1, 512, 0] ![1, 256, 1024] : Finset S4x1024x1024.Idx) (box S4x1024x1024 ![1, 768, 0] ![1, 256, 1024]) := by
    rw [Finset.disjoint_left]; intro i; simp only [Finset.mem_union, mem_box3]; omega
  exact pts_cut4 (ℓ := sM.view.loc (c : Thread nD τ)) f h d0 d1 d2

/-- The staging buffers, the send buffer and the rounded weights in their slots. -/
theorem cut_x (c : Dev nD) (f : Vec F S4x1024x1024 .f32) : (xM.view.loc (c : Thread nD τ) ↦{fullShare} f : sProp 𝕄) = iprop(xP c 0 f ∗ xP c 1 f ∗ xP c 2 f ∗ xP c 3 f) := by
  have h : (Finset.univ : Finset S4x1024x1024.Idx) = box S4x1024x1024 ![0, 0, 0] ![1, 1024, 1024] ∪ (box S4x1024x1024 ![1, 0, 0] ![1, 1024, 1024] ∪ (box S4x1024x1024 ![2, 0, 0] ![1, 1024, 1024] ∪ (box S4x1024x1024 ![3, 0, 0] ![1, 1024, 1024]))) := by
    ext i; simp only [Finset.mem_union, mem_box3, Finset.mem_univ, true_iff]
    have h0 := lt3_0 i; have h1 := lt3_1 i; have h2 := lt3_2 i; omega
  have d0 : Disjoint (box S4x1024x1024 ![0, 0, 0] ![1, 1024, 1024] : Finset S4x1024x1024.Idx) (box S4x1024x1024 ![1, 0, 0] ![1, 1024, 1024] ∪ (box S4x1024x1024 ![2, 0, 0] ![1, 1024, 1024] ∪ (box S4x1024x1024 ![3, 0, 0] ![1, 1024, 1024]))) := by
    rw [Finset.disjoint_left]; intro i; simp only [Finset.mem_union, mem_box3, Finset.mem_univ, true_iff]; omega
  have d1 : Disjoint (box S4x1024x1024 ![1, 0, 0] ![1, 1024, 1024] : Finset S4x1024x1024.Idx) (box S4x1024x1024 ![2, 0, 0] ![1, 1024, 1024] ∪ (box S4x1024x1024 ![3, 0, 0] ![1, 1024, 1024])) := by
    rw [Finset.disjoint_left]; intro i; simp only [Finset.mem_union, mem_box3, Finset.mem_univ, true_iff]; omega
  have d2 : Disjoint (box S4x1024x1024 ![2, 0, 0] ![1, 1024, 1024] : Finset S4x1024x1024.Idx) (box S4x1024x1024 ![3, 0, 0] ![1, 1024, 1024]) := by
    rw [Finset.disjoint_left]; intro i; simp only [Finset.mem_union, mem_box3, Finset.mem_univ, true_iff]; omega
  exact pts_cut4 (ℓ := xM.view.loc (c : Thread nD τ)) f h d0 d1 d2

theorem cut_sq (c : Dev nD) (f : FVec F S4x1024x1024 .fp8e5m2) : (sM.view.loc (c : Thread nD τ) ↦{fullShare} f : sProp 𝕄) = iprop(sQ c 0 f ∗ sQ c 1 f ∗ sQ c 2 f ∗ sQ c 3 f) := by
  have h : (Finset.univ : Finset S4x1024x1024.Idx) = box S4x1024x1024 ![0, 0, 0] ![1, 1024, 1024] ∪ (box S4x1024x1024 ![1, 0, 0] ![1, 1024, 1024] ∪ (box S4x1024x1024 ![2, 0, 0] ![1, 1024, 1024] ∪ (box S4x1024x1024 ![3, 0, 0] ![1, 1024, 1024]))) := by
    ext i; simp only [Finset.mem_union, mem_box3, Finset.mem_univ, true_iff]
    have h0 := lt3_0 i; have h1 := lt3_1 i; have h2 := lt3_2 i; omega
  have d0 : Disjoint (box S4x1024x1024 ![0, 0, 0] ![1, 1024, 1024] : Finset S4x1024x1024.Idx) (box S4x1024x1024 ![1, 0, 0] ![1, 1024, 1024] ∪ (box S4x1024x1024 ![2, 0, 0] ![1, 1024, 1024] ∪ (box S4x1024x1024 ![3, 0, 0] ![1, 1024, 1024]))) := by
    rw [Finset.disjoint_left]; intro i; simp only [Finset.mem_union, mem_box3, Finset.mem_univ, true_iff]; omega
  have d1 : Disjoint (box S4x1024x1024 ![1, 0, 0] ![1, 1024, 1024] : Finset S4x1024x1024.Idx) (box S4x1024x1024 ![2, 0, 0] ![1, 1024, 1024] ∪ (box S4x1024x1024 ![3, 0, 0] ![1, 1024, 1024])) := by
    rw [Finset.disjoint_left]; intro i; simp only [Finset.mem_union, mem_box3, Finset.mem_univ, true_iff]; omega
  have d2 : Disjoint (box S4x1024x1024 ![2, 0, 0] ![1, 1024, 1024] : Finset S4x1024x1024.Idx) (box S4x1024x1024 ![3, 0, 0] ![1, 1024, 1024]) := by
    rw [Finset.disjoint_left]; intro i; simp only [Finset.mem_union, mem_box3, Finset.mem_univ, true_iff]; omega
  exact pts_cut4 (ℓ := sM.view.loc (c : Thread nD τ)) f h d0 d1 d2

theorem cut_v (c : Dev nD) (f : FVec F S4x1024x2048 .fp8e5m2) : (vM.view.loc (c : Thread nD τ) ↦{fullShare} f : sProp 𝕄) = iprop(vP c 0 f ∗ vP c 1 f ∗ vP c 2 f ∗ vP c 3 f) := by
  have h : (Finset.univ : Finset S4x1024x2048.Idx) = box S4x1024x2048 ![0, 0, 0] ![1, 1024, 2048] ∪ (box S4x1024x2048 ![1, 0, 0] ![1, 1024, 2048] ∪ (box S4x1024x2048 ![2, 0, 0] ![1, 1024, 2048] ∪ (box S4x1024x2048 ![3, 0, 0] ![1, 1024, 2048]))) := by
    ext i; simp only [Finset.mem_union, mem_box3, Finset.mem_univ, true_iff]
    have h0 := lt3_0 i; have h1 := lt3_1 i; have h2 := lt3_2 i; omega
  have d0 : Disjoint (box S4x1024x2048 ![0, 0, 0] ![1, 1024, 2048] : Finset S4x1024x2048.Idx) (box S4x1024x2048 ![1, 0, 0] ![1, 1024, 2048] ∪ (box S4x1024x2048 ![2, 0, 0] ![1, 1024, 2048] ∪ (box S4x1024x2048 ![3, 0, 0] ![1, 1024, 2048]))) := by
    rw [Finset.disjoint_left]; intro i; simp only [Finset.mem_union, mem_box3, Finset.mem_univ, true_iff]; omega
  have d1 : Disjoint (box S4x1024x2048 ![1, 0, 0] ![1, 1024, 2048] : Finset S4x1024x2048.Idx) (box S4x1024x2048 ![2, 0, 0] ![1, 1024, 2048] ∪ (box S4x1024x2048 ![3, 0, 0] ![1, 1024, 2048])) := by
    rw [Finset.disjoint_left]; intro i; simp only [Finset.mem_union, mem_box3, Finset.mem_univ, true_iff]; omega
  have d2 : Disjoint (box S4x1024x2048 ![2, 0, 0] ![1, 1024, 2048] : Finset S4x1024x2048.Idx) (box S4x1024x2048 ![3, 0, 0] ![1, 1024, 2048]) := by
    rw [Finset.disjoint_left]; intro i; simp only [Finset.mem_union, mem_box3, Finset.mem_univ, true_iff]; omega
  exact pts_cut4 (ℓ := vM.view.loc (c : Thread nD τ)) f h d0 d1 d2

theorem cut_w (c : Dev nD) (f : Vec F S2x1024x2048 .f32) : (wM.view.loc (c : Thread nD τ) ↦{fullShare} f : sProp 𝕄) = iprop(wP c 0 f ∗ wP c 1 f) := by
  have h : (Finset.univ : Finset S2x1024x2048.Idx) = box S2x1024x2048 ![0, 0, 0] ![1, 1024, 2048] ∪ (box S2x1024x2048 ![1, 0, 0] ![1, 1024, 2048]) := by
    ext i; simp only [Finset.mem_union, mem_box3, Finset.mem_univ, true_iff]
    have h0 := lt3_0 i; have h1 := lt3_1 i; have h2 := lt3_2 i; omega
  have d0 : Disjoint (box S2x1024x2048 ![0, 0, 0] ![1, 1024, 2048] : Finset S2x1024x2048.Idx) (box S2x1024x2048 ![1, 0, 0] ![1, 1024, 2048]) := by
    rw [Finset.disjoint_left]; intro i; simp only [Finset.mem_union, mem_box3, Finset.mem_univ, true_iff]; omega
  exact pts_cut (ℓ := wM.view.loc (c : Thread nD τ)) f h d0

/-- The receive buffer in its slots, and these in the pieces transfers write. -/
theorem cut_r3 (c : Dev nD) (f : FVec F S3x1024x1024 .fp8e5m2) : (rM.view.loc (c : Thread nD τ) ↦{fullShare} f : sProp 𝕄) = iprop(rQ c 0 f ∗ rQ c 1 f ∗ rQ c 2 f) := by
  have h : (Finset.univ : Finset S3x1024x1024.Idx) = box S3x1024x1024 ![0, 0, 0] ![1, 1024, 1024] ∪ (box S3x1024x1024 ![1, 0, 0] ![1, 1024, 1024] ∪ (box S3x1024x1024 ![2, 0, 0] ![1, 1024, 1024])) := by
    ext i; simp only [Finset.mem_union, mem_box3, Finset.mem_univ, true_iff]
    have h0 := lt3_0 i; have h1 := lt3_1 i; have h2 := lt3_2 i; omega
  have d0 : Disjoint (box S3x1024x1024 ![0, 0, 0] ![1, 1024, 1024] : Finset S3x1024x1024.Idx) (box S3x1024x1024 ![1, 0, 0] ![1, 1024, 1024] ∪ (box S3x1024x1024 ![2, 0, 0] ![1, 1024, 1024])) := by
    rw [Finset.disjoint_left]; intro i; simp only [Finset.mem_union, mem_box3, Finset.mem_univ, true_iff]; omega
  have d1 : Disjoint (box S3x1024x1024 ![1, 0, 0] ![1, 1024, 1024] : Finset S3x1024x1024.Idx) (box S3x1024x1024 ![2, 0, 0] ![1, 1024, 1024]) := by
    rw [Finset.disjoint_left]; intro i; simp only [Finset.mem_union, mem_box3, Finset.mem_univ, true_iff]; omega
  exact pts_cut3 (ℓ := rM.view.loc (c : Thread nD τ)) f h d0 d1

theorem cut_r0 (c : Dev nD) (f : FVec F S3x1024x1024 .fp8e5m2) : rQ c 0 f = iprop(rP c 0 f ∗ rP c 1 f) := by
  have h : (box S3x1024x1024 ![0, 0, 0] ![1, 1024, 1024] : Finset S3x1024x1024.Idx) = box S3x1024x1024 ![0, 0, 0] ![1, 512, 1024] ∪ (box S3x1024x1024 ![0, 512, 0] ![1, 512, 1024]) := by
    ext i; simp only [Finset.mem_union, mem_box3]; omega
  have d0 : Disjoint (box S3x1024x1024 ![0, 0, 0] ![1, 512, 1024] : Finset S3x1024x1024.Idx) (box S3x1024x1024 ![0, 512, 0] ![1, 512, 1024]) := by
    rw [Finset.disjoint_left]; intro i; simp only [Finset.mem_union, mem_box3]; omega
  exact pts_cut (ℓ := rM.view.loc (c : Thread nD τ)) f h d0

theorem cut_r2 (c : Dev nD) (f : FVec F S3x1024x1024 .fp8e5m2) : rQ c 2 f = iprop(rP c 2 f ∗ rP c 3 f) := by
  have h : (box S3x1024x1024 ![2, 0, 0] ![1, 1024, 1024] : Finset S3x1024x1024.Idx) = box S3x1024x1024 ![2, 0, 0] ![1, 512, 1024] ∪ (box S3x1024x1024 ![2, 512, 0] ![1, 512, 1024]) := by
    ext i; simp only [Finset.mem_union, mem_box3]; omega
  have d0 : Disjoint (box S3x1024x1024 ![2, 0, 0] ![1, 512, 1024] : Finset S3x1024x1024.Idx) (box S3x1024x1024 ![2, 512, 0] ![1, 512, 1024]) := by
    rw [Finset.disjoint_left]; intro i; simp only [Finset.mem_union, mem_box3]; omega
  exact pts_cut (ℓ := rM.view.loc (c : Thread nD τ)) f h d0

theorem cut_r1 (c : Dev nD) (f : FVec F S3x1024x1024 .fp8e5m2) : rQ c 1 f = iprop(rP c 4 f ∗ rP c 5 f ∗ rP c 6 f ∗ rP c 7 f) := by
  have h : (box S3x1024x1024 ![1, 0, 0] ![1, 1024, 1024] : Finset S3x1024x1024.Idx) = box S3x1024x1024 ![1, 0, 0] ![1, 256, 1024] ∪ (box S3x1024x1024 ![1, 256, 0] ![1, 256, 1024] ∪ (box S3x1024x1024 ![1, 512, 0] ![1, 256, 1024] ∪ (box S3x1024x1024 ![1, 768, 0] ![1, 256, 1024]))) := by
    ext i; simp only [Finset.mem_union, mem_box3]; omega
  have d0 : Disjoint (box S3x1024x1024 ![1, 0, 0] ![1, 256, 1024] : Finset S3x1024x1024.Idx) (box S3x1024x1024 ![1, 256, 0] ![1, 256, 1024] ∪ (box S3x1024x1024 ![1, 512, 0] ![1, 256, 1024] ∪ (box S3x1024x1024 ![1, 768, 0] ![1, 256, 1024]))) := by
    rw [Finset.disjoint_left]; intro i; simp only [Finset.mem_union, mem_box3]; omega
  have d1 : Disjoint (box S3x1024x1024 ![1, 256, 0] ![1, 256, 1024] : Finset S3x1024x1024.Idx) (box S3x1024x1024 ![1, 512, 0] ![1, 256, 1024] ∪ (box S3x1024x1024 ![1, 768, 0] ![1, 256, 1024])) := by
    rw [Finset.disjoint_left]; intro i; simp only [Finset.mem_union, mem_box3]; omega
  have d2 : Disjoint (box S3x1024x1024 ![1, 512, 0] ![1, 256, 1024] : Finset S3x1024x1024.Idx) (box S3x1024x1024 ![1, 768, 0] ![1, 256, 1024]) := by
    rw [Finset.disjoint_left]; intro i; simp only [Finset.mem_union, mem_box3]; omega
  exact pts_cut4 (ℓ := rM.view.loc (c : Thread nD τ)) f h d0 d1 d2

/-- The accumulator whole, in halves, and these in quarters. -/
theorem cut_o (c : Dev nD) (f : Vec F S1024x2048 .f32) : oP c 0 1024 f = iprop(oP c 0 512 f ∗ oP c 512 512 f) := by
  have h : (box S1024x2048 ![0, 0] ![1024, 2048] : Finset S1024x2048.Idx) = box S1024x2048 ![0, 0] ![512, 2048] ∪ (box S1024x2048 ![512, 0] ![512, 2048]) := by
    ext i; simp only [Finset.mem_union, mem_box2]; omega
  have d0 : Disjoint (box S1024x2048 ![0, 0] ![512, 2048] : Finset S1024x2048.Idx) (box S1024x2048 ![512, 0] ![512, 2048]) := by
    rw [Finset.disjoint_left]; intro i; simp only [Finset.mem_union, mem_box2]; omega
  exact pts_cut (ℓ := oM.view.loc (c : Thread nD τ)) f h d0

theorem cut_h0 (c : Dev nD) (f : Vec F S1024x2048 .f32) : oP c 0 512 f = iprop(oP c 0 256 f ∗ oP c 256 256 f) := by
  have h : (box S1024x2048 ![0, 0] ![512, 2048] : Finset S1024x2048.Idx) = box S1024x2048 ![0, 0] ![256, 2048] ∪ (box S1024x2048 ![256, 0] ![256, 2048]) := by
    ext i; simp only [Finset.mem_union, mem_box2]; omega
  have d0 : Disjoint (box S1024x2048 ![0, 0] ![256, 2048] : Finset S1024x2048.Idx) (box S1024x2048 ![256, 0] ![256, 2048]) := by
    rw [Finset.disjoint_left]; intro i; simp only [Finset.mem_union, mem_box2]; omega
  exact pts_cut (ℓ := oM.view.loc (c : Thread nD τ)) f h d0

theorem cut_h1 (c : Dev nD) (f : Vec F S1024x2048 .f32) : oP c 512 512 f = iprop(oP c 512 256 f ∗ oP c 768 256 f) := by
  have h : (box S1024x2048 ![512, 0] ![512, 2048] : Finset S1024x2048.Idx) = box S1024x2048 ![512, 0] ![256, 2048] ∪ (box S1024x2048 ![768, 0] ![256, 2048]) := by
    ext i; simp only [Finset.mem_union, mem_box2]; omega
  have d0 : Disjoint (box S1024x2048 ![512, 0] ![256, 2048] : Finset S1024x2048.Idx) (box S1024x2048 ![768, 0] ![256, 2048]) := by
    rw [Finset.disjoint_left]; intro i; simp only [Finset.mem_union, mem_box2]; omega
  exact pts_cut (ℓ := oM.view.loc (c : Thread nD τ)) f h d0

theorem cut_ou (c : Dev nD) (f : Vec F S1024x2048 .f32) : (oM.view.loc (c : Thread nD τ) ↦{fullShare} f : sProp 𝕄) = iprop(oP c 0 256 f ∗ oP c 256 256 f ∗ oP c 512 256 f ∗ oP c 768 256 f) := by
  have h : (Finset.univ : Finset S1024x2048.Idx) = box S1024x2048 ![0, 0] ![256, 2048] ∪ (box S1024x2048 ![256, 0] ![256, 2048] ∪ (box S1024x2048 ![512, 0] ![256, 2048] ∪ (box S1024x2048 ![768, 0] ![256, 2048]))) := by
    ext i; simp only [Finset.mem_union, mem_box2, Finset.mem_univ, true_iff]
    have h0 := lt2_0 i; have h1 := lt2_1 i; omega
  have d0 : Disjoint (box S1024x2048 ![0, 0] ![256, 2048] : Finset S1024x2048.Idx) (box S1024x2048 ![256, 0] ![256, 2048] ∪ (box S1024x2048 ![512, 0] ![256, 2048] ∪ (box S1024x2048 ![768, 0] ![256, 2048]))) := by
    rw [Finset.disjoint_left]; intro i; simp only [Finset.mem_union, mem_box2, Finset.mem_univ, true_iff]; omega
  have d1 : Disjoint (box S1024x2048 ![256, 0] ![256, 2048] : Finset S1024x2048.Idx) (box S1024x2048 ![512, 0] ![256, 2048] ∪ (box S1024x2048 ![768, 0] ![256, 2048])) := by
    rw [Finset.disjoint_left]; intro i; simp only [Finset.mem_union, mem_box2, Finset.mem_univ, true_iff]; omega
  have d2 : Disjoint (box S1024x2048 ![512, 0] ![256, 2048] : Finset S1024x2048.Idx) (box S1024x2048 ![768, 0] ![256, 2048]) := by
    rw [Finset.disjoint_left]; intro i; simp only [Finset.mem_union, mem_box2, Finset.mem_univ, true_iff]; omega
  exact pts_cut4 (ℓ := oM.view.loc (c : Thread nD τ)) f h d0 d1 d2

theorem cut_y (c : Dev nD) (f : Vec F S1024x2048 .f32) : (yM.view.loc (c : Thread nD τ) ↦{fullShare} f : sProp 𝕄) = iprop(yP c 0 256 f ∗ yP c 256 256 f ∗ yP c 512 256 f ∗ yP c 768 256 f) := by
  have h : (Finset.univ : Finset S1024x2048.Idx) = box S1024x2048 ![0, 0] ![256, 2048] ∪ (box S1024x2048 ![256, 0] ![256, 2048] ∪ (box S1024x2048 ![512, 0] ![256, 2048] ∪ (box S1024x2048 ![768, 0] ![256, 2048]))) := by
    ext i; simp only [Finset.mem_union, mem_box2, Finset.mem_univ, true_iff]
    have h0 := lt2_0 i; have h1 := lt2_1 i; omega
  have d0 : Disjoint (box S1024x2048 ![0, 0] ![256, 2048] : Finset S1024x2048.Idx) (box S1024x2048 ![256, 0] ![256, 2048] ∪ (box S1024x2048 ![512, 0] ![256, 2048] ∪ (box S1024x2048 ![768, 0] ![256, 2048]))) := by
    rw [Finset.disjoint_left]; intro i; simp only [Finset.mem_union, mem_box2, Finset.mem_univ, true_iff]; omega
  have d1 : Disjoint (box S1024x2048 ![256, 0] ![256, 2048] : Finset S1024x2048.Idx) (box S1024x2048 ![512, 0] ![256, 2048] ∪ (box S1024x2048 ![768, 0] ![256, 2048])) := by
    rw [Finset.disjoint_left]; intro i; simp only [Finset.mem_union, mem_box2, Finset.mem_univ, true_iff]; omega
  have d2 : Disjoint (box S1024x2048 ![512, 0] ![256, 2048] : Finset S1024x2048.Idx) (box S1024x2048 ![768, 0] ![256, 2048]) := by
    rw [Finset.disjoint_left]; intro i; simp only [Finset.mem_union, mem_box2, Finset.mem_univ, true_iff]; omega
  exact pts_cut4 (ℓ := yM.view.loc (c : Thread nD τ)) f h d0 d1 d2

/-- The blocks of rows of an argument. -/
theorem cut_a (c : Dev nD) : (aM.view.loc (c : Thread nD τ) ↦{fullShare} xv m c : sProp 𝕄) = iprop(aP m c 1 ∗ aP m c 2 ∗ aP m c 3 ∗ aP m c 4) := by
  have h : (Finset.univ : Finset S4096x1024.Idx) = box S4096x1024 ![1024 * ((c.val + 1) % 4), 0] ![1024, 1024] ∪ (box S4096x1024 ![1024 * ((c.val + 2) % 4), 0] ![1024, 1024] ∪ (box S4096x1024 ![1024 * ((c.val + 3) % 4), 0] ![1024, 1024] ∪ (box S4096x1024 ![1024 * ((c.val + 4) % 4), 0] ![1024, 1024]))) := by
    ext i; simp only [Finset.mem_union, mem_box2, Finset.mem_univ, true_iff]
    have h0 := lt2_0 i; have h1 := lt2_1 i; have hc := dev_lt c
    omega
  have d0 : Disjoint (box S4096x1024 ![1024 * ((c.val + 1) % 4), 0] ![1024, 1024] : Finset S4096x1024.Idx) (box S4096x1024 ![1024 * ((c.val + 2) % 4), 0] ![1024, 1024] ∪ (box S4096x1024 ![1024 * ((c.val + 3) % 4), 0] ![1024, 1024] ∪ (box S4096x1024 ![1024 * ((c.val + 4) % 4), 0] ![1024, 1024]))) := by
    rw [Finset.disjoint_left]; intro i; simp only [Finset.mem_union, mem_box2, Finset.mem_univ, true_iff]; omega
  have d1 : Disjoint (box S4096x1024 ![1024 * ((c.val + 2) % 4), 0] ![1024, 1024] : Finset S4096x1024.Idx) (box S4096x1024 ![1024 * ((c.val + 3) % 4), 0] ![1024, 1024] ∪ (box S4096x1024 ![1024 * ((c.val + 4) % 4), 0] ![1024, 1024])) := by
    rw [Finset.disjoint_left]; intro i; simp only [Finset.mem_union, mem_box2, Finset.mem_univ, true_iff]; omega
  have d2 : Disjoint (box S4096x1024 ![1024 * ((c.val + 3) % 4), 0] ![1024, 1024] : Finset S4096x1024.Idx) (box S4096x1024 ![1024 * ((c.val + 4) % 4), 0] ![1024, 1024]) := by
    rw [Finset.disjoint_left]; intro i; simp only [Finset.mem_union, mem_box2, Finset.mem_univ, true_iff]; omega
  exact pts_cut4 (ℓ := aM.view.loc (c : Thread nD τ)) (xv m c) h d0 d1 d2

theorem cut_b (c : Dev nD) : (bM.view.loc (c : Thread nD τ) ↦{fullShare} wv m c : sProp 𝕄) = iprop(bP m c 1 ∗ bP m c 2 ∗ bP m c 3 ∗ bP m c 4) := by
  have h : (Finset.univ : Finset S4096x2048.Idx) = box S4096x2048 ![1024 * ((c.val + 1) % 4), 0] ![1024, 2048] ∪ (box S4096x2048 ![1024 * ((c.val + 2) % 4), 0] ![1024, 2048] ∪ (box S4096x2048 ![1024 * ((c.val + 3) % 4), 0] ![1024, 2048] ∪ (box S4096x2048 ![1024 * ((c.val + 4) % 4), 0] ![1024, 2048]))) := by
    ext i; simp only [Finset.mem_union, mem_box2, Finset.mem_univ, true_iff]
    have h0 := lt2_0 i; have h1 := lt2_1 i; have hc := dev_lt c
    omega
  have d0 : Disjoint (box S4096x2048 ![1024 * ((c.val + 1) % 4), 0] ![1024, 2048] : Finset S4096x2048.Idx) (box S4096x2048 ![1024 * ((c.val + 2) % 4), 0] ![1024, 2048] ∪ (box S4096x2048 ![1024 * ((c.val + 3) % 4), 0] ![1024, 2048] ∪ (box S4096x2048 ![1024 * ((c.val + 4) % 4), 0] ![1024, 2048]))) := by
    rw [Finset.disjoint_left]; intro i; simp only [Finset.mem_union, mem_box2, Finset.mem_univ, true_iff]; omega
  have d1 : Disjoint (box S4096x2048 ![1024 * ((c.val + 2) % 4), 0] ![1024, 2048] : Finset S4096x2048.Idx) (box S4096x2048 ![1024 * ((c.val + 3) % 4), 0] ![1024, 2048] ∪ (box S4096x2048 ![1024 * ((c.val + 4) % 4), 0] ![1024, 2048])) := by
    rw [Finset.disjoint_left]; intro i; simp only [Finset.mem_union, mem_box2, Finset.mem_univ, true_iff]; omega
  have d2 : Disjoint (box S4096x2048 ![1024 * ((c.val + 3) % 4), 0] ![1024, 2048] : Finset S4096x2048.Idx) (box S4096x2048 ![1024 * ((c.val + 4) % 4), 0] ![1024, 2048]) := by
    rw [Finset.disjoint_left]; intro i; simp only [Finset.mem_union, mem_box2, Finset.mem_univ, true_iff]; omega
  exact pts_cut4 (ℓ := bM.view.loc (c : Thread nD τ)) (wv m c) h d0 d1 d2

end Cert.KProof

end
-- ==== Proof.BodyA.lean ====
/-
# The body, first stretch: the copies in of `x`, the barrier, the halves' transfers
-/
module

public import proofs.«01_k».proof.Proof.Pieces

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ) (c : Dev nD)

set_option maxHeartbeats 400000 in
/-- The first three copies of `x` start. -/
theorem part2 (v2 v29 v30 : BitVec 32) (v31 v32 v33 : BitVec 1) {Q : _ → sProp 𝕄} :
    iprop(aP m c (0 + 1) ∗ aP m c (1 + 1) ∗ aP m c (2 + 1) ∗ (∃ f, xP c 0 f) ∗ (∃ f, xP c 1 f) ∗ (∃ f, xP c 2 f) ∗ lz c 0 ∗ lz c 1 ∗ lz c 2)
      ⊢ iprop(((xF m c 0 0 ∗ xF m c 1 1 ∗ xF m c 2 2) -∗ Q (SemArray.scalar (sig.barrier 0 rfl)))
        -∗ wpc c (k0_part2 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 v29 v30 v31 v32 v33) Q) := by
  simp only [k0_part2_eq_skeleton]; unfold k0_part2_skel
  simp only [semSignalWord, semWaitWord, smemLoad, smemLoadElt, Prog.lift, Prog.bind_op, Prog.bind_ret, Prog.pure_eq_ret]
  iintro ⟨Ha0, Ha1, Ha2, Hx0, Hx1, Hx2, Hz0, Hz1, Hz2⟩ Hk
  iapply (start_x m c 0 0 _ (off1_1 c) rfl) $$ [Ha0 Hx0 Hz0]
  · isplitl [Ha0]; · iexact Ha0
    isplitl [Hx0]; · iexact Hx0
    iexact Hz0
  iintro Hf0
  iapply (start_x m c 2 2 _ (off1_3 c) rfl) $$ [Ha2 Hx2 Hz2]
  · isplitl [Ha2]; · iexact Ha2
    isplitl [Hx2]; · iexact Hx2
    iexact Hz2
  iintro Hf2
  iapply (start_x m c 1 1 _ (off1_2 c) rfl) $$ [Ha1 Hx1 Hz1]
  · isplitl [Ha1]; · iexact Ha1
    isplitl [Hx1]; · iexact Hx1
    iexact Hz1
  iintro Hf1
  iapply (wpc_ret c)
  iapply Hk
  isplitl [Hf0]; · iexact Hf0
  isplitl [Hf1]; · iexact Hf1
  iexact Hf2

set_option maxHeartbeats 400000 in
/-- Two signals. -/
theorem part3 (v2 : BitVec 32) {Q : _ → sProp 𝕄} :
    iprop(env m K ∗ ow c (O₀ c) ∗ dutyTok ER (barCell (pl c 1)) 0 0 ∗ dutyTok ER (barCell (pl c 2)) 0 1 ∗ barPay (pl c 1) 0 ∗ barPay (pl c 2) 1)
      ⊢ iprop((∀ r, (ow c (O3 c)) -∗ Q r)
        -∗ wpc c (k0_part3 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 (SemArray.scalar (sig.barrier 0 rfl))) Q) := by
  simp only [k0_part3_eq_skeleton]; unfold k0_part3_skel
  simp only [semSignalWord, semWaitWord, smemLoad, smemLoadElt, Prog.lift, Prog.bind_op, Prog.bind_ret, Prog.pure_eq_ret]
  iintro ⟨#He, HO, Ht1, Ht2, Hp1, Hp2⟩ Hk
  simp only [dev1_eq c, dev2_eq c]
  iapply (signal m c K (pl c 1) 0 (by decide) (O2 c)) $$ [HO Ht1 Hp1]
  · isplitr; · iexact He
    isplitl [HO]; · iexact HO
    isplitl [Ht1]; · iexact Ht1
    iexact Hp1
  iintro HO
  iapply (signal m c K (pl c 2) 1 (by decide) (O3 c)) $$ [HO Ht2 Hp2]
  · isplitr; · iexact He
    isplitl [HO]; · iexact HO
    isplitl [Ht2]; · iexact Ht2
    iexact Hp2
  iintro HO
  iapply (wpc_ret c)
  iapply Hk
  iexact HO

set_option maxHeartbeats 400000 in
/-- The third signal and the wait at the barrier. -/
theorem part4 (v2 v95 v96 : BitVec 32) (v97 v98 : BitVec 1) {Q : _ → sProp 𝕄} :
    iprop(env m K ∗ ow c (O3 c) ∗ dutyTok ER (barCell (pl c 3)) 0 2 ∗ barPay (pl c 3) 2 ∗ cred (tallyAt (barCell c) () 3) ∗ atPos ER (barCell c) 0 ∅ 0)
      ⊢ iprop((∀ r, (ow c (OS c 0) ∗ atPos ER (barCell c) 1 ∅ 0 ∗ barPay c 0 ∗ barPay c 1 ∗ barPay c 2) -∗ Q r)
        -∗ wpc c (k0_part4 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 (SemArray.scalar (sig.barrier 0 rfl)) v95 v96 v97 v98) Q) := by
  simp only [k0_part4_eq_skeleton]; unfold k0_part4_skel
  simp only [semSignalWord, semWaitWord, smemLoad, smemLoadElt, Prog.lift, Prog.bind_op, Prog.bind_ret, Prog.pure_eq_ret]
  iintro ⟨#He, HO, Ht3, Hp3, Hc, Hat⟩ Hk
  simp only [dev3_eq c]
  iapply (signal m c K (pl c 3) 2 (by decide) (OS c 0)) $$ [HO Ht3 Hp3]
  · isplitr; · iexact He
    isplitl [HO]; · iexact HO
    isplitl [Ht3]; · iexact Ht3
    iexact Hp3
  iintro HO
  iapply (wait_bar m c K (by decide) (OS c 0) (above_OS c 0)) $$ [Hc HO Hat]
  · isplitr; · iexact He
    isplitl [Hc]; · iexact Hc
    isplitl [HO]; · iexact HO
    iexact Hat
  iintro ⟨HO, Hat, Hb0, Hb1, Hb2⟩
  iapply (wpc_ret c)
  iapply Hk
  isplitl [HO]; · iexact HO
  isplitl [Hat]; · iexact Hat
  isplitl [Hb0]; · iexact Hb0
  isplitl [Hb1]; · iexact Hb1
  iexact Hb2

set_option maxHeartbeats 400000 in
/-- Slot 0 of `x` is rounded into the send buffer, and its first half sent. -/
theorem part6 (v161 v162 : BitVec 32) (v163 v166 : BitVec 1) {Q : _ → sProp 𝕄} :
    iprop(env m K ∗ xF m c 0 0 ∗ (∃ f, sQ c 0 f) ∗ ow c (OS c 0) ∗ (∃ f, rP (dst c 0) 0 f) ∗ dutyTok ER (sCell c 0) 0 0 ∗ dutyTok ER (rCell (dst c 0) 0) 0 0)
      ⊢ iprop(((xP c 0 (xC m c) ∗ aP m c (0 + 1) ∗ lz c 0 ∗ sP c 1 (sC m c) ∗ cred (tallyAt (sCell c 0) () (amt 0)) ∗ ow c (OS c 1)) -∗ Q ⟨⟩)
        -∗ wpc c (k0_part6 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v161 v162 v163 v166) Q) := by
  simp only [k0_part6_eq_skeleton]; unfold k0_part6_skel
  simp only [semSignalWord, semWaitWord, smemLoad, smemLoadElt, Prog.lift, Prog.bind_op, Prog.bind_ret, Prog.pure_eq_ret]
  iintro ⟨#He, Hf, Hs, HO, Hd0, Hk0, Hl0⟩ Hk
  iapply (wait_x m c K 0 0 rfl _ (above_mono (Nat.zero_le 1) (above_OS c _))) $$ [Hf HO]
  · isplitr; · iexact He
    isplitl [Hf]; · iexact Hf
    iexact HO
  iintro ⟨Hx, Ha, Hz, HO⟩
  icases Hs with ⟨%fs, Hs⟩
  iapply (ld c (slice_set cc0_scratch0 _ _ _)) $$ Hx; iintro Hx
  iapply (ld c (slice_set cc0_scratch2 _ _ _)) $$ Hs; iintro Hs
  iapply (st c (slice_set cc0_scratch2 _ _ _) (sC m c) (by rw [pay1_eq]; exact read_s m c 0 _ _)) $$ Hs; iintro Hs
  ihave Hss := (Entails.of_eq (cut_s0 c (sC m c))) $$ Hs
  icases Hss with ⟨Hs0, Hs1⟩
  icases Hd0 with ⟨%fd0, Hd0⟩
  iapply (send_half m c K _ 0 0 0 (dev4_eq c) rfl rfl rfl rfl rfl rfl fd0) $$ [Hs0 Hd0 HO Hk0 Hl0]
  · isplitr; · iexact He
    isplitl [Hs0]; · iexact Hs0
    isplitl [Hd0]; · iexact Hd0
    isplitl [HO]; · iexact HO
    isplitl [Hk0]; · iexact Hk0
    iexact Hl0
  iintro ⟨Hc0, HO⟩
  iapply (wpc_ret c)
  iapply Hk
  isplitl [Hx]; · iexact Hx
  isplitl [Ha]; · iexact Ha
  isplitl [Hz]; · iexact Hz
  isplitl [Hs1]; · iexact Hs1
  isplitl [Hc0]; · iexact Hc0
  iexact HO

set_option maxHeartbeats 400000 in
/-- Its second half is sent, and slot 2 rounded. -/
theorem part7 (v2 : BitVec 32) {Q : _ → sProp 𝕄} :
    iprop(env m K ∗ xF m c 2 2 ∗ (∃ f, sQ c 2 f) ∗ ow c (OS c 1) ∗ sP c 1 (sC m c) ∗ (∃ f, rP (dst c 1) 1 f) ∗ dutyTok ER (sCell c 1) 0 0 ∗ dutyTok ER (rCell (dst c 1) 1) 0 0)
      ⊢ iprop((∀ r, (xP c 2 (xC m c) ∗ aP m c (2 + 1) ∗ lz c 2 ∗ sP c 2 (sC m c) ∗ sP c 3 (sC m c) ∗ cred (tallyAt (sCell c 1) () (amt 1)) ∗ ow c (OS c 2)) -∗ Q r)
        -∗ wpc c (k0_part7 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2) Q) := by
  simp only [k0_part7_eq_skeleton]; unfold k0_part7_skel
  simp only [semSignalWord, semWaitWord, smemLoad, smemLoadElt, Prog.lift, Prog.bind_op, Prog.bind_ret, Prog.pure_eq_ret]
  iintro ⟨#He, Hf, Hs, HO, Hs1, Hd1, Hk1, Hl1⟩ Hk
  icases Hd1 with ⟨%fd1, Hd1⟩
  iapply (send_half m c K _ 1 0 512 (dev5_eq c) rfl rfl rfl rfl rfl rfl fd1) $$ [Hs1 Hd1 HO Hk1 Hl1]
  · isplitr; · iexact He
    isplitl [Hs1]; · iexact Hs1
    isplitl [Hd1]; · iexact Hd1
    isplitl [HO]; · iexact HO
    isplitl [Hk1]; · iexact Hk1
    iexact Hl1
  iintro ⟨Hc1, HO⟩
  iapply (wait_x m c K 2 2 rfl _ (above_mono (Nat.zero_le 1) (above_OS c _))) $$ [Hf HO]
  · isplitr; · iexact He
    isplitl [Hf]; · iexact Hf
    iexact HO
  iintro ⟨Hx, Ha, Hz, HO⟩
  icases Hs with ⟨%fs, Hs⟩
  iapply (ld c (slice_set cc0_scratch0 _ _ _)) $$ Hx; iintro Hx
  iapply (ld c (slice_set cc0_scratch2 _ _ _)) $$ Hs; iintro Hs
  iapply (st c (slice_set cc0_scratch2 _ _ _) (sC m c) (by rw [pay2_eq]; exact read_s m c 2 _ _)) $$ Hs; iintro Hs
  ihave Hss := (Entails.of_eq (cut_s2 c (sC m c))) $$ Hs
  icases Hss with ⟨Hs2, Hs3⟩
  iapply (wpc_ret c)
  iapply Hk
  isplitl [Hx]; · iexact Hx
  isplitl [Ha]; · iexact Ha
  isplitl [Hz]; · iexact Hz
  isplitl [Hs2]; · iexact Hs2
  isplitl [Hs3]; · iexact Hs3
  isplitl [Hc1]; · iexact Hc1
  iexact HO

set_option maxHeartbeats 400000 in
/-- Slot 2 is sent in halves. -/
theorem part8 (v2 v212 v224 c0_i32_170 : BitVec 32) {Q : _ → sProp 𝕄} :
    iprop(env m K ∗ ow c (OS c 2) ∗ sP c 2 (sC m c) ∗ sP c 3 (sC m c) ∗ (∃ f, rP (dst c 2) 2 f) ∗ (∃ f, rP (dst c 3) 3 f) ∗ dutyTok ER (sCell c 2) 0 0 ∗ dutyTok ER (sCell c 3) 0 0 ∗ dutyTok ER (rCell (dst c 2) 2) 0 0 ∗ dutyTok ER (rCell (dst c 3) 3) 0 0)
      ⊢ iprop((∀ r, (cred (tallyAt (sCell c 2) () (amt 2)) ∗ cred (tallyAt (sCell c 3) () (amt 3)) ∗ ow c (OS c 4)) -∗ Q r)
        -∗ wpc c (k0_part8 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 v212 v224 c0_i32_170) Q) := by
  simp only [k0_part8_eq_skeleton]; unfold k0_part8_skel
  simp only [semSignalWord, semWaitWord, smemLoad, smemLoadElt, Prog.lift, Prog.bind_op, Prog.bind_ret, Prog.pure_eq_ret]
  iintro ⟨#He, HO, Hs2, Hs3, Hd2, Hd3, Hk2, Hk3, Hl2, Hl3⟩ Hk
  icases Hd2 with ⟨%fd2, Hd2⟩
  iapply (send_half m c K _ 2 2 0 (dev6_eq c) rfl rfl rfl rfl rfl rfl fd2) $$ [Hs2 Hd2 HO Hk2 Hl2]
  · isplitr; · iexact He
    isplitl [Hs2]; · iexact Hs2
    isplitl [Hd2]; · iexact Hd2
    isplitl [HO]; · iexact HO
    isplitl [Hk2]; · iexact Hk2
    iexact Hl2
  iintro ⟨Hc2, HO⟩
  icases Hd3 with ⟨%fd3, Hd3⟩
  iapply (send_half m c K _ 3 2 512 (dev7_eq c) rfl rfl rfl rfl rfl rfl fd3) $$ [Hs3 Hd3 HO Hk3 Hl3]
  · isplitr; · iexact He
    isplitl [Hs3]; · iexact Hs3
    isplitl [Hd3]; · iexact Hd3
    isplitl [HO]; · iexact HO
    isplitl [Hk3]; · iexact Hk3
    iexact Hl3
  iintro ⟨Hc3, HO⟩
  iapply (wpc_ret c)
  iapply Hk
  isplitl [Hc2]; · iexact Hc2
  isplitl [Hc3]; · iexact Hc3
  iexact HO

set_option maxHeartbeats 400000 in
/-- Slot 1 is rounded, and its first quarter sent. -/
theorem part9 (v255 : BitVec 32) {Q : _ → sProp 𝕄} :
    iprop(env m K ∗ xF m c 1 1 ∗ (∃ f, sQ c 1 f) ∗ ow c (OS c 4) ∗ (∃ f, rP (dst c 4) 4 f) ∗ dutyTok ER (sCell c 4) 0 0 ∗ dutyTok ER (rCell (dst c 4) 4) 0 0)
      ⊢ iprop(((xP c 1 (xC m c) ∗ aP m c (1 + 1) ∗ lz c 1 ∗ sP c 5 (sC m c) ∗ sP c 6 (sC m c) ∗ sP c 7 (sC m c) ∗ cred (tallyAt (sCell c 4) () (amt 4)) ∗ ow c (OS c 5)) -∗ Q ⟨⟩)
        -∗ wpc c (k0_part9 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v255) Q) := by
  simp only [k0_part9_eq_skeleton]; unfold k0_part9_skel
  simp only [semSignalWord, semWaitWord, smemLoad, smemLoadElt, Prog.lift, Prog.bind_op, Prog.bind_ret, Prog.pure_eq_ret]
  iintro ⟨#He, Hf, Hs, HO, Hd4, Hk4, Hl4⟩ Hk
  iapply (wait_x m c K 1 1 rfl _ (above_mono (Nat.zero_le 1) (above_OS c _))) $$ [Hf HO]
  · isplitr; · iexact He
    isplitl [Hf]; · iexact Hf
    iexact HO
  iintro ⟨Hx, Ha, Hz, HO⟩
  icases Hs with ⟨%fs, Hs⟩
  iapply (ld c (slice_set cc0_scratch0 _ _ _)) $$ Hx; iintro Hx
  iapply (ld c (slice_set cc0_scratch2 _ _ _)) $$ Hs; iintro Hs
  iapply (st c (slice_set cc0_scratch2 _ _ _) (sC m c) (by rw [pay3_eq]; exact read_s m c 1 _ _)) $$ Hs; iintro Hs
  ihave Hss := (Entails.of_eq (cut_s1 c (sC m c))) $$ Hs
  icases Hss with ⟨Hs4, Hs5, Hs6, Hs7⟩
  icases Hd4 with ⟨%fd4, Hd4⟩
  iapply (send_quarter m c K _ 4 1 0 (dev8_eq c) rfl rfl rfl rfl rfl rfl fd4) $$ [Hs4 Hd4 HO Hk4 Hl4]
  · isplitr; · iexact He
    isplitl [Hs4]; · iexact Hs4
    isplitl [Hd4]; · iexact Hd4
    isplitl [HO]; · iexact HO
    isplitl [Hk4]; · iexact Hk4
    iexact Hl4
  iintro ⟨Hc4, HO⟩
  iapply (wpc_ret c)
  iapply Hk
  isplitl [Hx]; · iexact Hx
  isplitl [Ha]; · iexact Ha
  isplitl [Hz]; · iexact Hz
  isplitl [Hs5]; · iexact Hs5
  isplitl [Hs6]; · iexact Hs6
  isplitl [Hs7]; · iexact Hs7
  isplitl [Hc4]; · iexact Hc4
  iexact HO

set_option maxHeartbeats 400000 in
/-- The other quarters are sent, and the device's own block of `x` starts in. -/
theorem part10 (v255 : BitVec 32) {Q : _ → sProp 𝕄} :
    iprop(env m K ∗ ow c (OS c 5) ∗ sP c 5 (sC m c) ∗ sP c 6 (sC m c) ∗ sP c 7 (sC m c) ∗ (∃ f, rP (dst c 5) 5 f) ∗ (∃ f, rP (dst c 6) 6 f) ∗ (∃ f, rP (dst c 7) 7 f) ∗ dutyTok ER (sCell c 5) 0 0 ∗ dutyTok ER (sCell c 6) 0 0 ∗ dutyTok ER (sCell c 7) 0 0 ∗ dutyTok ER (rCell (dst c 5) 5) 0 0 ∗ dutyTok ER (rCell (dst c 6) 6) 0 0 ∗ dutyTok ER (rCell (dst c 7) 7) 0 0 ∗ aP m c (3 + 1) ∗ (∃ f, xP c 3 f) ∗ lz c 3)
      ⊢ iprop(((cred (tallyAt (sCell c 5) () (amt 5)) ∗ cred (tallyAt (sCell c 6) () (amt 6)) ∗ cred (tallyAt (sCell c 7) () (amt 7)) ∗ xF m c 3 3 ∗ ow c 0) -∗ Q ⟨⟩)
        -∗ wpc c (k0_part10 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v255) Q) := by
  simp only [k0_part10_eq_skeleton]; unfold k0_part10_skel
  simp only [semSignalWord, semWaitWord, smemLoad, smemLoadElt, Prog.lift, Prog.bind_op, Prog.bind_ret, Prog.pure_eq_ret]
  iintro ⟨#He, HO, Hs5, Hs6, Hs7, Hd5, Hd6, Hd7, Hk5, Hk6, Hk7, Hl5, Hl6, Hl7, Ha, Hx, Hz⟩ Hk
  icases Hd5 with ⟨%fd5, Hd5⟩
  iapply (send_quarter m c K _ 5 1 256 (dev9_eq c) rfl rfl rfl rfl rfl rfl fd5) $$ [Hs5 Hd5 HO Hk5 Hl5]
  · isplitr; · iexact He
    isplitl [Hs5]; · iexact Hs5
    isplitl [Hd5]; · iexact Hd5
    isplitl [HO]; · iexact HO
    isplitl [Hk5]; · iexact Hk5
    iexact Hl5
  iintro ⟨Hc5, HO⟩
  icases Hd6 with ⟨%fd6, Hd6⟩
  iapply (send_quarter m c K _ 6 1 512 (dev10_eq c) rfl rfl rfl rfl rfl rfl fd6) $$ [Hs6 Hd6 HO Hk6 Hl6]
  · isplitr; · iexact He
    isplitl [Hs6]; · iexact Hs6
    isplitl [Hd6]; · iexact Hd6
    isplitl [HO]; · iexact HO
    isplitl [Hk6]; · iexact Hk6
    iexact Hl6
  iintro ⟨Hc6, HO⟩
  icases Hd7 with ⟨%fd7, Hd7⟩
  iapply (send_quarter m c K _ 7 1 768 (dev11_eq c) rfl rfl rfl rfl rfl rfl fd7) $$ [Hs7 Hd7 HO Hk7 Hl7]
  · isplitr; · iexact He
    isplitl [Hs7]; · iexact Hs7
    isplitl [Hd7]; · iexact Hd7
    isplitl [HO]; · iexact HO
    isplitl [Hk7]; · iexact Hk7
    iexact Hl7
  iintro ⟨Hc7, HO⟩
  iapply (start_x m c 3 3 _ (off1_0 c) rfl) $$ [Ha Hx Hz]
  · isplitl [Ha]; · iexact Ha
    isplitl [Hx]; · iexact Hx
    iexact Hz
  iintro Hf
  rw [show OS c ((7 : Fin 8).val + 1) = 0 from OS_end c]
  iapply (wpc_ret c)
  iapply Hk
  isplitl [Hc5]; · iexact Hc5
  isplitl [Hc6]; · iexact Hc6
  isplitl [Hc7]; · iexact Hc7
  isplitl [Hf]; · iexact Hf
  iexact HO

end Parts

end Cert.KProof

end
-- ==== Proof.BodyB.lean ====
/-
# The body, second stretch: the weights, and the products of the device's own block and of slots 0 and 2
-/
module

public import proofs.«01_k».proof.Proof.Pieces

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ) (c : Dev nD)

set_option maxHeartbeats 400000 in
/-- The first two row blocks of `w` start in; the first is rounded and the third started in its place. -/
theorem part11 {Q : _ → sProp 𝕄} :
    iprop(env m K ∗ bP m c 4 ∗ bP m c 3 ∗ bP m c 1 ∗ (∃ f, wP c 0 f) ∗ (∃ f, wP c 1 f) ∗ lz c 4 ∗ lz c 5 ∗ lz c 7 ∗ ow c 0 ∗ (∃ f, vP c 0 f))
      ⊢ iprop(((wF m c 5 1 3 ∗ bP m c 4 ∗ lz c 4 ∗ vP c 0 (vC m c) ∗ wF m c 7 0 1 ∗ ow c 0) -∗ Q ⟨⟩)
        -∗ wpc c (k0_part11 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c) Q) := by
  simp only [k0_part11_eq_skeleton]; unfold k0_part11_skel
  simp only [semSignalWord, semWaitWord, smemLoad, smemLoadElt, Prog.lift, Prog.bind_op, Prog.bind_ret, Prog.pure_eq_ret]
  iintro ⟨#He, Hb4, Hb3, Hb1, Hw0, Hw1, Hz4, Hz5, Hz7, HO, Hv⟩ Hk
  iapply (start_w m c 4 0 4 _ (off2_0 c) rfl) $$ [Hb4 Hw0 Hz4]
  · isplitl [Hb4]; · iexact Hb4
    isplitl [Hw0]; · iexact Hw0
    iexact Hz4
  iintro Hf4
  iapply (start_w m c 5 1 3 _ (off2_1 c) rfl) $$ [Hb3 Hw1 Hz5]
  · isplitl [Hb3]; · iexact Hb3
    isplitl [Hw1]; · iexact Hw1
    iexact Hz5
  iintro Hf5
  iapply (wait_w m c K 4 0 4 rfl 0 (above_zero 0)) $$ [Hf4 HO]
  · isplitr; · iexact He
    isplitl [Hf4]; · iexact Hf4
    iexact HO
  iintro ⟨Hw0, Hb4, Hz4, HO⟩
  icases Hv with ⟨%fv, Hv⟩
  iapply (ld c (slice_set cc0_scratch1 _ _ _)) $$ Hw0; iintro Hw0
  iapply (ld c (slice_set cc0_scratch4 _ _ _)) $$ Hv; iintro Hv
  iapply (st c (slice_set cc0_scratch4 _ _ _) (vC m c) (by rw [pay4_eq]; exact read_v m c 0 0 _ _)) $$ Hv; iintro Hv
  iapply (start_w m c 7 0 1 _ (off2_3 c) rfl) $$ [Hb1 Hw0 Hz7]
  · isplitl [Hb1]; · iexact Hb1
    isplitl [Hw0]; · iexists _; iexact Hw0
    iexact Hz7
  iintro Hf7
  iapply (wpc_ret c)
  iapply Hk
  isplitl [Hf5]; · iexact Hf5
  isplitl [Hb4]; · iexact Hb4
  isplitl [Hz4]; · iexact Hz4
  isplitl [Hv]; · iexact Hv
  isplitl [Hf7]; · iexact Hf7
  iexact HO

set_option maxHeartbeats 400000 in
/-- The second block is rounded and the fourth started; the first half of slot 0 arrives, and is multiplied. -/
theorem part12 (v2 : BitVec 32) {Q : _ → sProp 𝕄} :
    iprop(env m K ∗ wF m c 5 1 3 ∗ (∃ f, vP c 1 f) ∗ bP m c 2 ∗ lz c 6 ∗ ow c 0 ∗ cred (tallyAt (rCell c 0) () (amt 0)) ∗ atPos ER (rCell c 0) 0 ∅ 0 ∗ (∃ f, oP c 0 512 f))
      ⊢ iprop((∀ v : Vec F S512x2048 .f32, (bP m c 3 ∗ lz c 5 ∗ vP c 1 (vC m c) ∗ wF m c 6 1 2 ∗ ow c 0 ∗ atPos ER (rCell c 0) 1 ∅ 0 ∗ rP c 0 (rC m c) ∗ (∃ f, oP c 0 512 f)) -∗ Q ⟨k0_pay6 (ldR0 m c) (ldV1 m c), v⟩)
        -∗ wpc c (k0_part12 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2) Q) := by
  simp only [k0_part12_eq_skeleton]; unfold k0_part12_skel
  simp only [semSignalWord, semWaitWord, smemLoad, smemLoadElt, Prog.lift, Prog.bind_op, Prog.bind_ret, Prog.pure_eq_ret]
  iintro ⟨#He, Hf5, Hv, Hb2, Hz6, HO, Hc0, Hat0, Ho⟩ Hk
  iapply (wait_w m c K 5 1 3 rfl 0 (above_zero 0)) $$ [Hf5 HO]
  · isplitr; · iexact He
    isplitl [Hf5]; · iexact Hf5
    iexact HO
  iintro ⟨Hw1, Hb3, Hz5, HO⟩
  icases Hv with ⟨%fv, Hv⟩
  iapply (ld c (slice_set cc0_scratch1 _ _ _)) $$ Hw1; iintro Hw1
  iapply (ld c (slice_set cc0_scratch4 _ _ _)) $$ Hv; iintro Hv
  iapply (st c (slice_set cc0_scratch4 _ _ _) (vC m c) (by rw [pay5_eq]; exact read_v m c 1 1 _ _)) $$ Hv; iintro Hv
  iapply (start_w m c 6 1 2 _ (off2_2 c) rfl) $$ [Hb2 Hw1 Hz6]
  · isplitl [Hb2]; · iexact Hb2
    isplitl [Hw1]; · iexists _; iexact Hw1
    iexact Hz6
  iintro Hf6
  iapply (wait_recv_half m c K 0 rfl rfl) $$ [Hc0 HO Hat0]
  · isplitr; · iexact He
    isplitl [Hc0]; · iexact Hc0
    isplitl [HO]; · iexact HO
    iexact Hat0
  iintro ⟨HO, Hat0, Hr0⟩
  iapply (ld_r c 0 (r := Rect.unit (s := S3x1024x1024) ![0, 0, 0] S1x512x1024.size inb_S3x1024x1024_S1x512x1024_0_0_0) (slice_set cc0_scratch3 _ _ _)) $$ Hr0; iintro Hr0
  iapply (ld c (slice_set cc0_scratch4 _ _ _)) $$ Hv; iintro Hv
  icases Ho with ⟨%fo, Ho⟩
  iapply (ld c (slice_set cc0_scratch5 _ _ _)) $$ Ho; iintro Ho
  iapply (wpc_ret c)
  iapply Hk
  isplitl [Hb3]; · iexact Hb3
  isplitl [Hz5]; · iexact Hz5
  isplitl [Hv]; · iexact Hv
  isplitl [Hf6]; · iexact Hf6
  isplitl [HO]; · iexact HO
  isplitl [Hat0]; · iexact Hat0
  isplitl [Hr0]; · iexact Hr0
  iexists _; iexact Ho

set_option maxHeartbeats 400000 in
/-- Both products of slot 0 are stored; the device's own block is in. -/
theorem part13 (v2 : BitVec 32) (v367 : Vec F S512x2048 .f32) {Q : _ → sProp 𝕄} :
    iprop(env m K ∗ (∃ f, oP c 0 512 f) ∗ (∃ f, oP c 512 512 f) ∗ cred (tallyAt (rCell c 1) () (amt 1)) ∗ atPos ER (rCell c 1) 0 ∅ 0 ∗ ow c 0 ∗ vP c 1 (vC m c) ∗ xF m c 3 3)
      ⊢ iprop(((oP c 0 512 (oA m c) ∗ oP c 512 512 (oA m c) ∗ vP c 1 (vC m c) ∗ atPos ER (rCell c 1) 1 ∅ 0 ∗ rP c 1 (rC m c) ∗ ow c 0 ∗ xP c 3 (xC m c) ∗ aP m c (3 + 1) ∗ lz c 3) -∗ Q (k0_pay9 (xM.view.readAt (Elt F) (Rect.unit (s := S4x1024x1024) ![3, 0, 0] S1x1024x1024.size inb_S4x1024x1024_S1x1024x1024_3_0_0).toLoadRect (xC m c))))
        -∗ wpc c (k0_part13 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 (k0_pay6 (ldR0 m c) (ldV1 m c)) v367) Q) := by
  simp only [k0_part13_eq_skeleton]; unfold k0_part13_skel
  simp only [semSignalWord, semWaitWord, smemLoad, smemLoadElt, Prog.lift, Prog.bind_op, Prog.bind_ret, Prog.pure_eq_ret]
  iintro ⟨#He, Ho, Ho', Hc1, Hat1, HO, Hv, Hf⟩ Hk
  icases Ho with ⟨%fo, Ho⟩
  iapply (st c (slice_set cc0_scratch5 _ _ _) (oA m c) (by unfold oA; exact two_0 _ _)) $$ Ho; iintro Ho
  iapply (wait_recv_half m c K 1 rfl rfl) $$ [Hc1 HO Hat1]
  · isplitr; · iexact He
    isplitl [Hc1]; · iexact Hc1
    isplitl [HO]; · iexact HO
    iexact Hat1
  iintro ⟨HO, Hat1, Hr1⟩
  iapply (ld_r c 1 (r := Rect.unit (s := S3x1024x1024) ![0, 512, 0] S1x512x1024.size inb_S3x1024x1024_S1x512x1024_0_512_0) (slice_set cc0_scratch3 _ _ _)) $$ Hr1; iintro Hr1
  iapply (ld c (slice_set cc0_scratch4 _ _ _)) $$ Hv; iintro Hv
  icases Ho' with ⟨%fo', Ho'⟩
  iapply (ld c (slice_set cc0_scratch5 _ _ _)) $$ Ho'; iintro Ho'
  iapply (st c (slice_set cc0_scratch5 _ _ _) (oA m c) (by unfold oA; exact two_1 _ _)) $$ Ho'; iintro Ho'
  iapply (wait_x m c K 3 3 rfl 0 (above_zero 0)) $$ [Hf HO]
  · isplitr; · iexact He
    isplitl [Hf]; · iexact Hf
    iexact HO
  iintro ⟨Hx, Ha, Hz, HO⟩
  iapply (ld c (slice_set cc0_scratch0 _ _ _)) $$ Hx; iintro Hx
  iapply (wpc_ret c)
  iapply Hk
  isplitl [Ho]; · iexact Ho
  isplitl [Ho']; · iexact Ho'
  isplitl [Hv]; · iexact Hv
  isplitl [Hat1]; · iexact Hat1
  isplitl [Hr1]; · iexact Hr1
  isplitl [HO]; · iexact HO
  isplitl [Hx]; · iexact Hx
  isplitl [Ha]; · iexact Ha
  iexact Hz

set_option maxHeartbeats 400000 in
/-- The own block is rounded and its product added; the third block of `w` is rounded. -/
theorem part14 (v2 : BitVec 32) {Q : _ → sProp 𝕄} :
    iprop(env m K ∗ (∃ f, sQ c 3 f) ∗ oP c 0 1024 (oA m c) ∗ vP c 0 (vC m c) ∗ wF m c 7 0 1 ∗ (∃ f, vP c 3 f) ∗ ow c 0)
      ⊢ iprop(((sQ c 3 (sC m c) ∗ oP c 0 1024 (oB m c) ∗ vP c 0 (vC m c) ∗ wP c 0 (wC m c 1) ∗ bP m c 1 ∗ lz c 7 ∗ vP c 3 (vC m c) ∗ ow c 0) -∗ Q ⟨⟩)
        -∗ wpc c (k0_part14 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 (k0_pay9 (xM.view.readAt (Elt F) (Rect.unit (s := S4x1024x1024) ![3, 0, 0] S1x1024x1024.size inb_S4x1024x1024_S1x1024x1024_3_0_0).toLoadRect (xC m c)))) Q) := by
  simp only [k0_part14_eq_skeleton]; unfold k0_part14_skel
  simp only [semSignalWord, semWaitWord, smemLoad, smemLoadElt, Prog.lift, Prog.bind_op, Prog.bind_ret, Prog.pure_eq_ret]
  iintro ⟨#He, Hs, Ho, Hv, Hf7, Hv3, HO⟩ Hk
  icases Hs with ⟨%fs, Hs⟩
  iapply (ld c (slice_set cc0_scratch2 _ _ _)) $$ Hs; iintro Hs
  iapply (st c (slice_set cc0_scratch2 _ _ _) (sC m c) (by rw [pay10_eq]; exact read_s m c 3 _ _)) $$ Hs; iintro Hs
  iapply (ld c (slice_set cc0_scratch5 _ _ _)) $$ Ho; iintro Ho
  iapply (ld c (slice_set cc0_scratch2 _ _ _)) $$ Hs; iintro Hs
  iapply (ld c (slice_set cc0_scratch4 _ _ _)) $$ Hv; iintro Hv
  iapply (ld c (slice_set cc0_scratch5 _ _ _)) $$ Ho; iintro Ho
  iapply (st c (slice_set cc0_scratch5 _ _ _) (oB m c) (by unfold oB; exact ldO_eq _)) $$ Ho; iintro Ho
  iapply (wait_w m c K 7 0 1 rfl 0 (above_zero 0)) $$ [Hf7 HO]
  · isplitr; · iexact He
    isplitl [Hf7]; · iexact Hf7
    iexact HO
  iintro ⟨Hw0, Hb1, Hz7, HO⟩
  icases Hv3 with ⟨%fv, Hv3⟩
  iapply (ld c (slice_set cc0_scratch1 _ _ _)) $$ Hw0; iintro Hw0
  iapply (ld c (slice_set cc0_scratch4 _ _ _)) $$ Hv3; iintro Hv3
  iapply (st c (slice_set cc0_scratch4 _ _ _) (vC m c) (by rw [pay12_eq]; exact read_v m c 3 0 _ _)) $$ Hv3; iintro Hv3
  iapply (wpc_ret c)
  iapply Hk
  isplitl [Hs]; · iexact Hs
  isplitl [Ho]; · iexact Ho
  isplitl [Hv]; · iexact Hv
  isplitl [Hw0]; · iexact Hw0
  isplitl [Hb1]; · iexact Hb1
  isplitl [Hz7]; · iexact Hz7
  isplitl [Hv3]; · iexact Hv3
  iexact HO

set_option maxHeartbeats 400000 in
/-- Slot 2 arrives; its first half's product is added. -/
theorem part15 (v2 : BitVec 32) {Q : _ → sProp 𝕄} :
    iprop(env m K ∗ cred (tallyAt (rCell c 2) () (amt 2)) ∗ cred (tallyAt (rCell c 3) () (amt 3)) ∗ atPos ER (rCell c 2) 0 ∅ 0 ∗ atPos ER (rCell c 3) 0 ∅ 0 ∗ ow c 0 ∗ vP c 3 (vC m c) ∗ oP c 0 512 (oB m c))
      ⊢ iprop(((atPos ER (rCell c 2) 1 ∅ 0 ∗ atPos ER (rCell c 3) 1 ∅ 0 ∗ rP c 2 (rC m c) ∗ rP c 3 (rC m c) ∗ ow c 0 ∗ vP c 3 (vC m c) ∗ oP c 0 512 (oC m c)) -∗ Q ⟨k0_pay14 (ldR3 m c), k0_pay15 (ldV3 m c)⟩)
        -∗ wpc c (k0_part15 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 v2) Q) := by
  simp only [k0_part15_eq_skeleton]; unfold k0_part15_skel
  simp only [semSignalWord, semWaitWord, smemLoad, smemLoadElt, Prog.lift, Prog.bind_op, Prog.bind_ret, Prog.pure_eq_ret]
  iintro ⟨#He, Hc2, Hc3, Hat2, Hat3, HO, Hv, Ho⟩ Hk
  iapply (wait_recv_half m c K 2 rfl rfl) $$ [Hc2 HO Hat2]
  · isplitr; · iexact He
    isplitl [Hc2]; · iexact Hc2
    isplitl [HO]; · iexact HO
    iexact Hat2
  iintro ⟨HO, Hat2, Hr2⟩
  iapply (ld_r c 2 (r := Rect.unit (s := S3x1024x1024) ![2, 0, 0] S1x512x1024.size inb_S3x1024x1024_S1x512x1024_2_0_0) (slice_set cc0_scratch3 _ _ _)) $$ Hr2; iintro Hr2
  iapply (ld c (slice_set cc0_scratch4 _ _ _)) $$ Hv; iintro Hv
  iapply (ld c (slice_set cc0_scratch5 _ _ _)) $$ Ho; iintro Ho
  iapply (ld c (slice_set cc0_scratch5 _ _ _)) $$ Ho; iintro Ho
  iapply (st c (slice_set cc0_scratch5 _ _ _) (oC m c) (by unfold oC; exact two_0 _ _)) $$ Ho; iintro Ho
  iapply (wait_recv_half m c K 3 rfl rfl) $$ [Hc3 HO Hat3]
  · isplitr; · iexact He
    isplitl [Hc3]; · iexact Hc3
    isplitl [HO]; · iexact HO
    iexact Hat3
  iintro ⟨HO, Hat3, Hr3⟩
  iapply (ld_r c 3 (r := Rect.unit (s := S3x1024x1024) ![2, 512, 0] S1x512x1024.size inb_S3x1024x1024_S1x512x1024_2_512_0) (slice_set cc0_scratch3 _ _ _)) $$ Hr3; iintro Hr3
  iapply (ld c (slice_set cc0_scratch4 _ _ _)) $$ Hv; iintro Hv
  iapply (wpc_ret c)
  iapply Hk
  isplitl [Hat2]; · iexact Hat2
  isplitl [Hat3]; · iexact Hat3
  isplitl [Hr2]; · iexact Hr2
  isplitl [Hr3]; · iexact Hr3
  isplitl [HO]; · iexact HO
  isplitl [Hv]; · iexact Hv
  iexact Ho

set_option maxHeartbeats 400000 in
/-- Its second half's is added; the last block of `w` is rounded; the scales are read, and the first quarter of slot 1 arrives. -/
theorem part16 (v2 : BitVec 32) (f2 f3 : Vec F S1 .f32) {Q : _ → sProp 𝕄} :
    iprop(env m K ∗ oP c 512 512 (oB m c) ∗ wF m c 6 1 2 ∗ (∃ f, vP c 2 f) ∗ g2P c f2 ∗ g3P c f3 ∗ cred (tallyAt (rCell c 4) () (amt 4)) ∗ atPos ER (rCell c 4) 0 ∅ 0 ∗ ow c 0)
      ⊢ iprop(((oP c 512 512 (oC m c) ∗ wP c 1 (wC m c 2) ∗ bP m c 2 ∗ lz c 6 ∗ vP c 2 (vC m c) ∗ g2P c f2 ∗ g3P c f3 ∗ atPos ER (rCell c 4) 1 ∅ 0 ∗ rP c 4 (rC m c) ∗ ow c 0) -∗ Q (k0_pay18 (rd2 f2) (rd3 f3)))
        -∗ wpc c (k0_part16 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 c v2 (k0_pay14 (ldR3 m c)) (k0_pay15 (ldV3 m c))) Q) := by
  simp only [k0_part16_eq_skeleton]; unfold k0_part16_skel
  simp only [semSignalWord, semWaitWord, smemLoad, smemLoadElt, Prog.lift, Prog.bind_op, Prog.bind_ret, Prog.pure_eq_ret]
  iintro ⟨#He, Ho, Hf6, Hv, Hg2, Hg3, Hc4, Hat4, HO⟩ Hk
  iapply (ld c (slice_set cc0_scratch5 _ _ _)) $$ Ho; iintro Ho
  iapply (ld c (slice_set cc0_scratch5 _ _ _)) $$ Ho; iintro Ho
  iapply (st c (slice_set cc0_scratch5 _ _ _) (oC m c) (by unfold oC; exact two_1 _ _)) $$ Ho; iintro Ho
  iapply (wait_w m c K 6 1 2 rfl 0 (above_zero 0)) $$ [Hf6 HO]
  · isplitr; · iexact He
    isplitl [Hf6]; · iexact Hf6
    iexact HO
  iintro ⟨Hw1, Hb2, Hz6, HO⟩
  icases Hv with ⟨%fv, Hv⟩
  iapply (ld c (slice_set cc0_scratch1 _ _ _)) $$ Hw1; iintro Hw1
  iapply (ld c (slice_set cc0_scratch4 _ _ _)) $$ Hv; iintro Hv
  iapply (st c (slice_set cc0_scratch4 _ _ _) (vC m c) (by rw [pay17_eq]; exact read_v m c 2 1 _ _)) $$ Hv; iintro Hv
  iapply (ld_smem c) $$ Hg2; iintro Hg2
  iapply (ld_smem c) $$ Hg3; iintro Hg3
  iapply (wait_recv_quarter m c K 4 rfl rfl) $$ [Hc4 HO Hat4]
  · isplitr; · iexact He
    isplitl [Hc4]; · iexact Hc4
    isplitl [HO]; · iexact HO
    iexact Hat4
  iintro ⟨HO, Hat4, Hr4⟩
  iapply (wpc_ret c)
  iapply Hk
  isplitl [Ho]; · iexact Ho
  isplitl [Hw1]; · iexact Hw1
  isplitl [Hb2]; · iexact Hb2
  isplitl [Hz6]; · iexact Hz6
  isplitl [Hv]; · iexact Hv
  isplitl [Hg2]; · iexact Hg2
  isplitl [Hg3]; · iexact Hg3
  isplitl [Hat4]; · iexact Hat4
  isplitl [Hr4]; · iexact Hr4
  iexact HO

end Parts

end Cert.KProof

end
-- ==== Proof.BodyC.lean ====
/-
# The body, third stretch: the products of slot 1, the activation, and the result's way out
-/
module

public import proofs.«01_k».proof.Proof.Pieces

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ) (c : Dev nD)

set_option maxHeartbeats 400000 in
/-- The first quarter is finished and starts out. -/
theorem part17 (v2 : BitVec 32) (s : F .f32) {Q : _ → sProp 𝕄} :
    iprop(env m K ∗ oP c 0 256 (oC m c) ∗ rP c 4 (rC m c) ∗ vP c 2 (vC m c) ∗ (∃ f, yP c 0 256 f) ∗ lz c 8 ∗ cred (tallyAt (rCell c 5) () (amt 5)) ∗ atPos ER (rCell c 5) 0 ∅ 0 ∗ oP c 256 256 (oC m c) ∗ ow c 0)
      ⊢ iprop(((yF c 8 0 (oD m c s) ∗ rP c 4 (rC m c) ∗ vP c 2 (vC m c) ∗ atPos ER (rCell c 5) 1 ∅ 0 ∗ rP c 5 (rC m c) ∗ oP c 256 256 (oC m c) ∗ ow c 0) -∗ Q (ldQ1 (oC m c)))
        -∗ wpc c (k0_part17 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 v2 s) Q) := by
  simp only [k0_part17_eq_skeleton]; unfold k0_part17_skel
  simp only [semSignalWord, semWaitWord, smemLoad, smemLoadElt, Prog.lift, Prog.bind_op, Prog.bind_ret, Prog.pure_eq_ret]
  iintro ⟨#He, Ho0, Hr4, Hv, Hy0, Hz0, Hc5, Hat5, Ho1, HO⟩ Hk
  iapply (ld c (slice_set cc0_scratch5 _ _ _)) $$ Ho0; iintro Ho0
  iapply (ld_r c 4 (r := Rect.unit (s := S3x1024x1024) ![1, 0, 0] S1x256x1024.size inb_S3x1024x1024_S1x256x1024_1_0_0) (slice_set cc0_scratch3 _ _ _)) $$ Hr4; iintro Hr4
  iapply (ld c (slice_set cc0_scratch4 _ _ _)) $$ Hv; iintro Hv
  iapply (ld c (slice_set cc0_scratch5 _ _ _)) $$ Ho0; iintro Ho0
  iapply (st c (slice_set cc0_scratch5 _ _ _) (oD m c s) (by unfold oD; exact four_0 _ _ _ _)) $$ Ho0; iintro Ho0
  iapply (start_y c 8 0 (oD m c s) rfl) $$ [Ho0 Hy0 Hz0]
  · isplitl [Ho0]; · iexact Ho0
    isplitl [Hy0]; · iexact Hy0
    iexact Hz0
  iintro Hf0
  iapply (wait_recv_quarter m c K 5 rfl rfl) $$ [Hc5 HO Hat5]
  · isplitr; · iexact He
    isplitl [Hc5]; · iexact Hc5
    isplitl [HO]; · iexact HO
    iexact Hat5
  iintro ⟨HO, Hat5, Hr5⟩
  iapply (ld c (slice_set cc0_scratch5 _ _ _)) $$ Ho1; iintro Ho1
  iapply (wpc_ret c)
  iapply Hk
  isplitl [Hf0]; · iexact Hf0
  isplitl [Hr4]; · iexact Hr4
  isplitl [Hv]; · iexact Hv
  isplitl [Hat5]; · iexact Hat5
  isplitl [Hr5]; · iexact Hr5
  isplitl [Ho1]; · iexact Ho1
  iexact HO

set_option maxHeartbeats 400000 in
/-- The second quarter is. -/
theorem part18 (v2 : BitVec 32) (s : F .f32) {Q : _ → sProp 𝕄} :
    iprop(env m K ∗ oP c 256 256 (oC m c) ∗ rP c 5 (rC m c) ∗ vP c 2 (vC m c) ∗ (∃ f, yP c 256 256 f) ∗ lz c 9 ∗ cred (tallyAt (rCell c 6) () (amt 6)) ∗ atPos ER (rCell c 6) 0 ∅ 0 ∗ oP c 512 256 (oC m c) ∗ ow c 0)
      ⊢ iprop(((yF c 9 256 (oD m c s) ∗ rP c 5 (rC m c) ∗ vP c 2 (vC m c) ∗ atPos ER (rCell c 6) 1 ∅ 0 ∗ rP c 6 (rC m c) ∗ oP c 512 256 (oC m c) ∗ ow c 0) -∗ Q ⟨ldQ2 (oC m c), k0_pay21 (ldR6 m c)⟩)
        -∗ wpc c (k0_part18 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 v2 s (ldQ1 (oC m c))) Q) := by
  simp only [k0_part18_eq_skeleton]; unfold k0_part18_skel
  simp only [semSignalWord, semWaitWord, smemLoad, smemLoadElt, Prog.lift, Prog.bind_op, Prog.bind_ret, Prog.pure_eq_ret]
  iintro ⟨#He, Ho1, Hr5, Hv, Hy1, Hz1, Hc6, Hat6, Ho2, HO⟩ Hk
  iapply (ld_r c 5 (r := Rect.unit (s := S3x1024x1024) ![1, 256, 0] S1x256x1024.size inb_S3x1024x1024_S1x256x1024_1_256_0) (slice_set cc0_scratch3 _ _ _)) $$ Hr5; iintro Hr5
  iapply (ld c (slice_set cc0_scratch4 _ _ _)) $$ Hv; iintro Hv
  iapply (ld c (slice_set cc0_scratch5 _ _ _)) $$ Ho1; iintro Ho1
  iapply (st c (slice_set cc0_scratch5 _ _ _) (oD m c s) (by unfold oD; exact four_1 _ _ _ _)) $$ Ho1; iintro Ho1
  iapply (start_y c 9 256 (oD m c s) rfl) $$ [Ho1 Hy1 Hz1]
  · isplitl [Ho1]; · iexact Ho1
    isplitl [Hy1]; · iexact Hy1
    iexact Hz1
  iintro Hf1
  iapply (wait_recv_quarter m c K 6 rfl rfl) $$ [Hc6 HO Hat6]
  · isplitr; · iexact He
    isplitl [Hc6]; · iexact Hc6
    isplitl [HO]; · iexact HO
    iexact Hat6
  iintro ⟨HO, Hat6, Hr6⟩
  iapply (ld c (slice_set cc0_scratch5 _ _ _)) $$ Ho2; iintro Ho2
  iapply (ld_r c 6 (r := Rect.unit (s := S3x1024x1024) ![1, 512, 0] S1x256x1024.size inb_S3x1024x1024_S1x256x1024_1_512_0) (slice_set cc0_scratch3 _ _ _)) $$ Hr6; iintro Hr6
  iapply (wpc_ret c)
  iapply Hk
  isplitl [Hf1]; · iexact Hf1
  isplitl [Hr5]; · iexact Hr5
  isplitl [Hv]; · iexact Hv
  isplitl [Hat6]; · iexact Hat6
  isplitl [Hr6]; · iexact Hr6
  isplitl [Ho2]; · iexact Ho2
  iexact HO

set_option maxHeartbeats 400000 in
/-- The third quarter is. -/
theorem part19 (v2 : BitVec 32) (s : F .f32) {Q : _ → sProp 𝕄} :
    iprop(env m K ∗ oP c 512 256 (oC m c) ∗ vP c 2 (vC m c) ∗ (∃ f, yP c 512 256 f) ∗ lz c 10 ∗ cred (tallyAt (rCell c 7) () (amt 7)) ∗ atPos ER (rCell c 7) 0 ∅ 0 ∗ oP c 768 256 (oC m c) ∗ ow c 0)
      ⊢ iprop(((yF c 10 512 (oD m c s) ∗ vP c 2 (vC m c) ∗ atPos ER (rCell c 7) 1 ∅ 0 ∗ rP c 7 (rC m c) ∗ oP c 768 256 (oC m c) ∗ ow c 0) -∗ Q ⟨ldQ3 (oC m c), k0_pay23 (ldR7 m c) (ldV2 m c)⟩)
        -∗ wpc c (k0_part19 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 v2 s (ldQ2 (oC m c)) (k0_pay21 (ldR6 m c))) Q) := by
  simp only [k0_part19_eq_skeleton]; unfold k0_part19_skel
  simp only [semSignalWord, semWaitWord, smemLoad, smemLoadElt, Prog.lift, Prog.bind_op, Prog.bind_ret, Prog.pure_eq_ret]
  iintro ⟨#He, Ho2, Hv, Hy2, Hz2, Hc7, Hat7, Ho3, HO⟩ Hk
  iapply (ld c (slice_set cc0_scratch4 _ _ _)) $$ Hv; iintro Hv
  iapply (ld c (slice_set cc0_scratch5 _ _ _)) $$ Ho2; iintro Ho2
  iapply (st c (slice_set cc0_scratch5 _ _ _) (oD m c s) (by unfold oD; exact four_2 _ _ _ _)) $$ Ho2; iintro Ho2
  iapply (start_y c 10 512 (oD m c s) rfl) $$ [Ho2 Hy2 Hz2]
  · isplitl [Ho2]; · iexact Ho2
    isplitl [Hy2]; · iexact Hy2
    iexact Hz2
  iintro Hf2
  iapply (wait_recv_quarter m c K 7 rfl rfl) $$ [Hc7 HO Hat7]
  · isplitr; · iexact He
    isplitl [Hc7]; · iexact Hc7
    isplitl [HO]; · iexact HO
    iexact Hat7
  iintro ⟨HO, Hat7, Hr7⟩
  iapply (ld c (slice_set cc0_scratch5 _ _ _)) $$ Ho3; iintro Ho3
  iapply (ld_r c 7 (r := Rect.unit (s := S3x1024x1024) ![1, 768, 0] S1x256x1024.size inb_S3x1024x1024_S1x256x1024_1_768_0) (slice_set cc0_scratch3 _ _ _)) $$ Hr7; iintro Hr7
  iapply (ld c (slice_set cc0_scratch4 _ _ _)) $$ Hv; iintro Hv
  iapply (wpc_ret c)
  iapply Hk
  isplitl [Hf2]; · iexact Hf2
  isplitl [Hv]; · iexact Hv
  isplitl [Hat7]; · iexact Hat7
  isplitl [Hr7]; · iexact Hr7
  isplitl [Ho3]; · iexact Ho3
  iexact HO

set_option maxHeartbeats 400000 in
/-- The last quarter is, and the first three are out. -/
theorem part20 (s : F .f32) {Q : _ → sProp 𝕄} :
    iprop(env m K ∗ oP c 768 256 (oC m c) ∗ (∃ f, yP c 768 256 f) ∗ lz c 11 ∗ yF c 8 0 (oD m c s) ∗ yF c 9 256 (oD m c s) ∗ yF c 10 512 (oD m c s) ∗ ow c 0)
      ⊢ iprop(((yP c 0 256 (oD m c s) ∗ oP c 0 256 (oD m c s) ∗ lz c 8 ∗ yP c 256 256 (oD m c s) ∗ oP c 256 256 (oD m c s) ∗ lz c 9 ∗ yP c 512 256 (oD m c s) ∗ oP c 512 256 (oD m c s) ∗ lz c 10 ∗ yF c 11 768 (oD m c s) ∗ ow c 0) -∗ Q ⟨⟩)
        -∗ wpc c (k0_part20 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 s (ldQ3 (oC m c)) (k0_pay23 (ldR7 m c) (ldV2 m c))) Q) := by
  simp only [k0_part20_eq_skeleton]; unfold k0_part20_skel
  simp only [semSignalWord, semWaitWord, smemLoad, smemLoadElt, Prog.lift, Prog.bind_op, Prog.bind_ret, Prog.pure_eq_ret]
  iintro ⟨#He, Ho3, Hy3, Hz3, Hf0, Hf1, Hf2, HO⟩ Hk
  iapply (ld c (slice_set cc0_scratch5 _ _ _)) $$ Ho3; iintro Ho3
  iapply (st c (slice_set cc0_scratch5 _ _ _) (oD m c s) (by unfold oD; exact four_3 _ _ _ _)) $$ Ho3; iintro Ho3
  iapply (start_y c 11 768 (oD m c s) rfl) $$ [Ho3 Hy3 Hz3]
  · isplitl [Ho3]; · iexact Ho3
    isplitl [Hy3]; · iexact Hy3
    iexact Hz3
  iintro Hf3
  iapply (wait_y m c K 8 0 (oD m c s) rfl) $$ [Hf0 HO]
  · isplitr; · iexact He
    isplitl [Hf0]; · iexact Hf0
    iexact HO
  iintro ⟨Hy0, Ho0, Hz0, HO⟩
  iapply (wait_y m c K 9 256 (oD m c s) rfl) $$ [Hf1 HO]
  · isplitr; · iexact He
    isplitl [Hf1]; · iexact Hf1
    iexact HO
  iintro ⟨Hy1, Ho1, Hz1, HO⟩
  iapply (wait_y m c K 10 512 (oD m c s) rfl) $$ [Hf2 HO]
  · isplitr; · iexact He
    isplitl [Hf2]; · iexact Hf2
    iexact HO
  iintro ⟨Hy2, Ho2, Hz2, HO⟩
  iapply (wpc_ret c)
  iapply Hk
  isplitl [Hy0]; · iexact Hy0
  isplitl [Ho0]; · iexact Ho0
  isplitl [Hz0]; · iexact Hz0
  isplitl [Hy1]; · iexact Hy1
  isplitl [Ho1]; · iexact Ho1
  isplitl [Hz1]; · iexact Hz1
  isplitl [Hy2]; · iexact Hy2
  isplitl [Ho2]; · iexact Ho2
  isplitl [Hz2]; · iexact Hz2
  isplitl [Hf3]; · iexact Hf3
  iexact HO

set_option maxHeartbeats 400000 in
/-- All the result is out, and three of the transfers have left. -/
theorem part21 (s : F .f32) {Q : _ → sProp 𝕄} :
    iprop(env m K ∗ yF c 11 768 (oD m c s) ∗ cred (tallyAt (sCell c 0) () (amt 0)) ∗ cred (tallyAt (sCell c 1) () (amt 1)) ∗ cred (tallyAt (sCell c 2) () (amt 2)) ∗ atPos ER (sCell c 0) 0 ∅ 0 ∗ atPos ER (sCell c 1) 0 ∅ 0 ∗ atPos ER (sCell c 2) 0 ∅ 0 ∗ ow c 0)
      ⊢ iprop(((yP c 768 256 (oD m c s) ∗ oP c 768 256 (oD m c s) ∗ lz c 11 ∗ atPos ER (sCell c 0) 1 ∅ 0 ∗ atPos ER (sCell c 1) 1 ∅ 0 ∗ atPos ER (sCell c 2) 1 ∅ 0 ∗ sP c 0 (sC m c) ∗ sP c 1 (sC m c) ∗ sP c 2 (sC m c) ∗ ow c 0) -∗ Q ⟨⟩)
        -∗ wpc c (k0_part21 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 ) Q) := by
  simp only [k0_part21_eq_skeleton]; unfold k0_part21_skel
  simp only [semSignalWord, semWaitWord, smemLoad, smemLoadElt, Prog.lift, Prog.bind_op, Prog.bind_ret, Prog.pure_eq_ret]
  iintro ⟨#He, Hf3, Hc0, Hc1, Hc2, Hat0, Hat1, Hat2, HO⟩ Hk
  iapply (wait_y m c K 11 768 (oD m c s) rfl) $$ [Hf3 HO]
  · isplitr; · iexact He
    isplitl [Hf3]; · iexact Hf3
    iexact HO
  iintro ⟨Hy3, Ho3, Hz3, HO⟩
  iapply (wait_send_half m c K 0 rfl rfl) $$ [Hc0 HO Hat0]
  · isplitr; · iexact He
    isplitl [Hc0]; · iexact Hc0
    isplitl [HO]; · iexact HO
    iexact Hat0
  iintro ⟨HO, Hat0, Hs0⟩
  iapply (wait_send_half m c K 1 rfl rfl) $$ [Hc1 HO Hat1]
  · isplitr; · iexact He
    isplitl [Hc1]; · iexact Hc1
    isplitl [HO]; · iexact HO
    iexact Hat1
  iintro ⟨HO, Hat1, Hs1⟩
  iapply (wait_send_half m c K 2 rfl rfl) $$ [Hc2 HO Hat2]
  · isplitr; · iexact He
    isplitl [Hc2]; · iexact Hc2
    isplitl [HO]; · iexact HO
    iexact Hat2
  iintro ⟨HO, Hat2, Hs2⟩
  iapply (wpc_ret c)
  iapply Hk
  isplitl [Hy3]; · iexact Hy3
  isplitl [Ho3]; · iexact Ho3
  isplitl [Hz3]; · iexact Hz3
  isplitl [Hat0]; · iexact Hat0
  isplitl [Hat1]; · iexact Hat1
  isplitl [Hat2]; · iexact Hat2
  isplitl [Hs0]; · iexact Hs0
  isplitl [Hs1]; · iexact Hs1
  isplitl [Hs2]; · iexact Hs2
  iexact HO

set_option maxHeartbeats 400000 in
/-- Four more have. -/
theorem part22 {Q : _ → sProp 𝕄} :
    iprop(env m K ∗ cred (tallyAt (sCell c 3) () (amt 3)) ∗ cred (tallyAt (sCell c 4) () (amt 4)) ∗ cred (tallyAt (sCell c 5) () (amt 5)) ∗ cred (tallyAt (sCell c 6) () (amt 6)) ∗ atPos ER (sCell c 3) 0 ∅ 0 ∗ atPos ER (sCell c 4) 0 ∅ 0 ∗ atPos ER (sCell c 5) 0 ∅ 0 ∗ atPos ER (sCell c 6) 0 ∅ 0 ∗ ow c 0)
      ⊢ iprop(((atPos ER (sCell c 3) 1 ∅ 0 ∗ atPos ER (sCell c 4) 1 ∅ 0 ∗ atPos ER (sCell c 5) 1 ∅ 0 ∗ atPos ER (sCell c 6) 1 ∅ 0 ∗ sP c 3 (sC m c) ∗ sP c 4 (sC m c) ∗ sP c 5 (sC m c) ∗ sP c 6 (sC m c) ∗ ow c 0) -∗ Q ⟨⟩)
        -∗ wpc c (k0_part22 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 ) Q) := by
  simp only [k0_part22_eq_skeleton]; unfold k0_part22_skel
  simp only [semSignalWord, semWaitWord, smemLoad, smemLoadElt, Prog.lift, Prog.bind_op, Prog.bind_ret, Prog.pure_eq_ret]
  iintro ⟨#He, Hc3, Hc4, Hc5, Hc6, Hat3, Hat4, Hat5, Hat6, HO⟩ Hk
  iapply (wait_send_half m c K 3 rfl rfl) $$ [Hc3 HO Hat3]
  · isplitr; · iexact He
    isplitl [Hc3]; · iexact Hc3
    isplitl [HO]; · iexact HO
    iexact Hat3
  iintro ⟨HO, Hat3, Hs3⟩
  iapply (wait_send_quarter m c K 4 rfl rfl) $$ [Hc4 HO Hat4]
  · isplitr; · iexact He
    isplitl [Hc4]; · iexact Hc4
    isplitl [HO]; · iexact HO
    iexact Hat4
  iintro ⟨HO, Hat4, Hs4⟩
  iapply (wait_send_quarter m c K 5 rfl rfl) $$ [Hc5 HO Hat5]
  · isplitr; · iexact He
    isplitl [Hc5]; · iexact Hc5
    isplitl [HO]; · iexact HO
    iexact Hat5
  iintro ⟨HO, Hat5, Hs5⟩
  iapply (wait_send_quarter m c K 6 rfl rfl) $$ [Hc6 HO Hat6]
  · isplitr; · iexact He
    isplitl [Hc6]; · iexact Hc6
    isplitl [HO]; · iexact HO
    iexact Hat6
  iintro ⟨HO, Hat6, Hs6⟩
  iapply (wpc_ret c)
  iapply Hk
  isplitl [Hat3]; · iexact Hat3
  isplitl [Hat4]; · iexact Hat4
  isplitl [Hat5]; · iexact Hat5
  isplitl [Hat6]; · iexact Hat6
  isplitl [Hs3]; · iexact Hs3
  isplitl [Hs4]; · iexact Hs4
  isplitl [Hs5]; · iexact Hs5
  isplitl [Hs6]; · iexact Hs6
  iexact HO

end Parts

end Cert.KProof

end
-- ==== Proof.Body.lean ====
/-
# The body, whole: its parts in order
-/
module

public import proofs.«01_k».proof.Proof.BodyA
public import proofs.«01_k».proof.Proof.BodyB
public import proofs.«01_k».proof.Proof.BodyC

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ) (c : Dev nD)

/-- A program run after another. -/
theorem wpc_bind {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q :=
  Entails.of_eq (wp_bind _ _ _ _ _ _).symm

/-- The first part reads the device's id and computes words from it. -/
theorem part1 {Q : _ → sProp 𝕄} :
    iprop(∀ v2, ∀ v29, ∀ v30, ∀ v31, ∀ v32, ∀ v33, Q ⟨c, v2, v29, v30, v31, v32, v33⟩)
      ⊢ wpc c (k0_part1 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12) Q := by
  simp only [k0_part1_eq_skeleton]; unfold k0_part1_skel wpc
  simp only [Prog.lift, Prog.bind_op, Prog.bind_ret, Prog.pure_eq_ret, wp_deviceId]
  iintro H
  iapply (wpc_ret c)
  iapply H

/-- The fifth only computes words. -/
theorem part5 (v2 c4 : BitVec 32) {Q : _ → sProp 𝕄} :
    iprop(∀ r, Q r) ⊢ wpc c (k0_part5 aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12 v2 c4) Q := by
  simp only [k0_part5_eq_skeleton]; unfold k0_part5_skel
  simp only [Prog.lift, Prog.bind_op, Prog.bind_ret, Prog.pure_eq_ret]
  iintro H
  iapply (wpc_ret c)
  iapply H

set_option maxHeartbeats 4000000 in
/-- The body, from everything in pieces to everything in pieces. -/
theorem run_body (f2 f3 : Vec F S1 .f32) {Q : PUnit → sProp 𝕄} :
    iprop(env m K ∗ ow c (O₀ c) ∗ dutyTok ER (barCell (pl c 1)) 0 0 ∗ dutyTok ER (barCell (pl c 2)) 0 1 ∗ dutyTok ER (barCell (pl c 3)) 0 2 ∗ dutyTok ER (sCell c 0) 0 0 ∗ dutyTok ER (sCell c 1) 0 0 ∗ dutyTok ER (sCell c 2) 0 0 ∗ dutyTok ER (sCell c 3) 0 0 ∗ dutyTok ER (sCell c 4) 0 0 ∗ dutyTok ER (sCell c 5) 0 0 ∗ dutyTok ER (sCell c 6) 0 0 ∗ dutyTok ER (sCell c 7) 0 0 ∗ dutyTok ER (rCell (dst c 0) 0) 0 0 ∗ dutyTok ER (rCell (dst c 1) 1) 0 0 ∗ dutyTok ER (rCell (dst c 2) 2) 0 0 ∗ dutyTok ER (rCell (dst c 3) 3) 0 0 ∗ dutyTok ER (rCell (dst c 4) 4) 0 0 ∗ dutyTok ER (rCell (dst c 5) 5) 0 0 ∗ dutyTok ER (rCell (dst c 6) 6) 0 0 ∗ dutyTok ER (rCell (dst c 7) 7) 0 0 ∗ cred (tallyAt (barCell c) () 3) ∗ cred (tallyAt (rCell c 0) () (amt 0)) ∗ cred (tallyAt (rCell c 1) () (amt 1)) ∗ cred (tallyAt (rCell c 2) () (amt 2)) ∗ cred (tallyAt (rCell c 3) () (amt 3)) ∗ cred (tallyAt (rCell c 4) () (amt 4)) ∗ cred (tallyAt (rCell c 5) () (amt 5)) ∗ cred (tallyAt (rCell c 6) () (amt 6)) ∗ cred (tallyAt (rCell c 7) () (amt 7)) ∗ atPos ER (barCell c) 0 ∅ 0 ∗ atPos ER (sCell c 0) 0 ∅ 0 ∗ atPos ER (sCell c 1) 0 ∅ 0 ∗ atPos ER (sCell c 2) 0 ∅ 0 ∗ atPos ER (sCell c 3) 0 ∅ 0 ∗ atPos ER (sCell c 4) 0 ∅ 0 ∗ atPos ER (sCell c 5) 0 ∅ 0 ∗ atPos ER (sCell c 6) 0 ∅ 0 ∗ atPos ER (sCell c 7) 0 ∅ 0 ∗ atPos ER (rCell c 0) 0 ∅ 0 ∗ atPos ER (rCell c 1) 0 ∅ 0 ∗ atPos ER (rCell c 2) 0 ∅ 0 ∗ atPos ER (rCell c 3) 0 ∅ 0 ∗ atPos ER (rCell c 4) 0 ∅ 0 ∗ atPos ER (rCell c 5) 0 ∅ 0 ∗ atPos ER (rCell c 6) 0 ∅ 0 ∗ atPos ER (rCell c 7) 0 ∅ 0 ∗ lz c 0 ∗ lz c 1 ∗ lz c 2 ∗ lz c 3 ∗ lz c 4 ∗ lz c 5 ∗ lz c 6 ∗ lz c 7 ∗ lz c 8 ∗ lz c 9 ∗ lz c 10 ∗ lz c 11 ∗ aP m c (0 + 1) ∗ aP m c (1 + 1) ∗ aP m c (2 + 1) ∗ aP m c (3 + 1) ∗ bP m c 1 ∗ bP m c 2 ∗ bP m c 3 ∗ bP m c 4 ∗ (∃ f, xP c 0 f) ∗ (∃ f, xP c 1 f) ∗ (∃ f, xP c 2 f) ∗ (∃ f, xP c 3 f) ∗ (∃ f, wP c 0 f) ∗ (∃ f, wP c 1 f) ∗ (∃ f, sQ c 0 f) ∗ (∃ f, sQ c 1 f) ∗ (∃ f, sQ c 2 f) ∗ (∃ f, sQ c 3 f) ∗ (∃ f, vP c 0 f) ∗ (∃ f, vP c 1 f) ∗ (∃ f, vP c 2 f) ∗ (∃ f, vP c 3 f) ∗ barPay (pl c 1) 0 ∗ barPay (pl c 2) 1 ∗ barPay (pl c 3) 2 ∗ (∃ f, oP c 0 512 f) ∗ (∃ f, oP c 512 512 f) ∗ (∃ f, yP c 0 256 f) ∗ (∃ f, yP c 256 256 f) ∗ (∃ f, yP c 512 256 f) ∗ (∃ f, yP c 768 256 f) ∗ g2P c f2 ∗ g3P c f3)
      ⊢ iprop(((ow c 0 ∗ atPos ER (barCell c) 1 ∅ 0 ∗ atPos ER (sCell c 0) 1 ∅ 0 ∗ atPos ER (sCell c 1) 1 ∅ 0 ∗ atPos ER (sCell c 2) 1 ∅ 0 ∗ atPos ER (sCell c 3) 1 ∅ 0 ∗ atPos ER (sCell c 4) 1 ∅ 0 ∗ atPos ER (sCell c 5) 1 ∅ 0 ∗ atPos ER (sCell c 6) 1 ∅ 0 ∗ atPos ER (sCell c 7) 1 ∅ 0 ∗ atPos ER (rCell c 0) 1 ∅ 0 ∗ atPos ER (rCell c 1) 1 ∅ 0 ∗ atPos ER (rCell c 2) 1 ∅ 0 ∗ atPos ER (rCell c 3) 1 ∅ 0 ∗ atPos ER (rCell c 4) 1 ∅ 0 ∗ atPos ER (rCell c 5) 1 ∅ 0 ∗ atPos ER (rCell c 6) 1 ∅ 0 ∗ atPos ER (rCell c 7) 1 ∅ 0 ∗ lz c 0 ∗ lz c 1 ∗ lz c 2 ∗ lz c 3 ∗ lz c 4 ∗ lz c 5 ∗ lz c 6 ∗ lz c 7 ∗ lz c 8 ∗ lz c 9 ∗ lz c 10 ∗ lz c 11 ∗ aP m c (0 + 1) ∗ aP m c (1 + 1) ∗ aP m c (2 + 1) ∗ aP m c (3 + 1) ∗ bP m c 1 ∗ bP m c 2 ∗ bP m c 3 ∗ bP m c 4 ∗ xP c 0 (xC m c) ∗ xP c 1 (xC m c) ∗ xP c 2 (xC m c) ∗ xP c 3 (xC m c) ∗ wP c 0 (wC m c 1) ∗ wP c 1 (wC m c 2) ∗ sP c 0 (sC m c) ∗ sP c 1 (sC m c) ∗ sP c 2 (sC m c) ∗ sP c 3 (sC m c) ∗ sP c 4 (sC m c) ∗ sP c 5 (sC m c) ∗ sP c 6 (sC m c) ∗ sP c 7 (sC m c) ∗ sQ c 3 (sC m c) ∗ vP c 0 (vC m c) ∗ vP c 1 (vC m c) ∗ vP c 2 (vC m c) ∗ vP c 3 (vC m c) ∗ rP c 0 (rC m c) ∗ rP c 1 (rC m c) ∗ rP c 2 (rC m c) ∗ rP c 3 (rC m c) ∗ rP c 4 (rC m c) ∗ rP c 5 (rC m c) ∗ rP c 6 (rC m c) ∗ rP c 7 (rC m c) ∗ oP c 0 256 (oD m c (k0_pay18 (rd2 f2) (rd3 f3))) ∗ oP c 256 256 (oD m c (k0_pay18 (rd2 f2) (rd3 f3))) ∗ oP c 512 256 (oD m c (k0_pay18 (rd2 f2) (rd3 f3))) ∗ oP c 768 256 (oD m c (k0_pay18 (rd2 f2) (rd3 f3))) ∗ yP c 0 256 (oD m c (k0_pay18 (rd2 f2) (rd3 f3))) ∗ yP c 256 256 (oD m c (k0_pay18 (rd2 f2) (rd3 f3))) ∗ yP c 512 256 (oD m c (k0_pay18 (rd2 f2) (rd3 f3))) ∗ yP c 768 256 (oD m c (k0_pay18 (rd2 f2) (rd3 f3))) ∗ g2P c f2 ∗ g3P c f3) -∗ wpc c (Prog.ret ⟨⟩) Q)
        -∗ wpc c (cc0_body aM (Memref.isWhole_whole _) bM (Memref.isWhole_whole _) g2M (Memref.isWhole_whole _) g3M (Memref.isWhole_whole _) yM (Memref.isWhole_whole _) xM (Memref.isWhole_whole _) wM (Memref.isWhole_whole _) sM (Memref.isWhole_whole _) rM (Memref.isWhole_whole _) vM (Memref.isWhole_whole _) oM (Memref.isWhole_whole _) cc0_scratch6 cc0_scratch7 cc0_scratch8 cc0_scratch9 cc0_scratch10 cc0_scratch11 cc0_scratch12) Q) := by
  rw [cc0_body_eq_skeleton]; unfold cc0_body_skel
  iintro ⟨#He, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91⟩ Hk
  iapply (wpc_bind c); iapply (part1 c); iintro %v2 %v29 %v30 %v31 %v32 %v33
  -- part 2
  iapply (wpc_bind c)
  iapply (part2 m c _ _ _ _ _ _) $$ [H59 H60 H61 H67 H68 H69 H47 H48 H49]
  · isplitl [H59]; · iexact H59
    isplitl [H60]; · iexact H60
    isplitl [H61]; · iexact H61
    isplitl [H67]; · iexact H67
    isplitl [H68]; · iexact H68
    isplitl [H69]; · iexact H69
    isplitl [H47]; · iexact H47
    isplitl [H48]; · iexact H48
    iexact H49
  iintro ⟨H92, H93, H94⟩
  -- part 3
  iapply (wpc_bind c)
  iapply (part3 m K c _) $$ [H1 H2 H3 H81 H82]
  · isplitr; · iexact He
    isplitl [H1]; · iexact H1
    isplitl [H2]; · iexact H2
    isplitl [H3]; · iexact H3
    isplitl [H81]; · iexact H81
    iexact H82
  iintro %r
  iintro H95
  rcases r with ⟨v95, v96, v97, v98⟩
  -- part 4
  iapply (wpc_bind c)
  iapply (part4 m K c _ _ _ _ _) $$ [H95 H4 H83 H21 H30]
  · isplitr; · iexact He
    isplitl [H95]; · iexact H95
    isplitl [H4]; · iexact H4
    isplitl [H83]; · iexact H83
    isplitl [H21]; · iexact H21
    iexact H30
  iintro %r
  iintro ⟨H96, H97, H98, H99, H100⟩
  ihave H98 := (Entails.of_eq (show barPay c 0 = iprop((∃ f, rP (dst c 2) 2 f) ∗ (∃ f, rP (dst c 3) 3 f)) from rfl)) $$ H98
  icases H98 with ⟨H101, H102⟩
  ihave H99 := (Entails.of_eq (show barPay c 1 = iprop((∃ f, rP (dst c 4) 4 f) ∗ (∃ f, rP (dst c 5) 5 f) ∗ (∃ f, rP (dst c 6) 6 f) ∗ (∃ f, rP (dst c 7) 7 f)) from rfl)) $$ H99
  icases H99 with ⟨H103, H104, H105, H106⟩
  ihave H100 := (Entails.of_eq (show barPay c 2 = iprop((∃ f, rP (dst c 0) 0 f) ∗ (∃ f, rP (dst c 1) 1 f)) from rfl)) $$ H100
  icases H100 with ⟨H107, H108⟩
  iapply (wpc_bind c); iapply (part5 c); iintro %r5; rcases r5 with ⟨v161, v162, v163, v166⟩
  -- part 6
  iapply (wpc_bind c)
  iapply (part6 m K c _ _ _ _) $$ [H92 H73 H96 H107 H5 H13]
  · isplitr; · iexact He
    isplitl [H92]; · iexact H92
    isplitl [H73]; · iexact H73
    isplitl [H96]; · iexact H96
    isplitl [H107]; · iexact H107
    isplitl [H5]; · iexact H5
    iexact H13
  iintro ⟨H109, H110, H111, H112, H113, H114⟩
  -- part 7
  iapply (wpc_bind c)
  iapply (part7 m K c _) $$ [H94 H75 H114 H112 H108 H6 H14]
  · isplitr; · iexact He
    isplitl [H94]; · iexact H94
    isplitl [H75]; · iexact H75
    isplitl [H114]; · iexact H114
    isplitl [H112]; · iexact H112
    isplitl [H108]; · iexact H108
    isplitl [H6]; · iexact H6
    iexact H14
  iintro %r
  iintro ⟨H115, H116, H117, H118, H119, H120, H121⟩
  rcases r with ⟨v212, v224, v0⟩
  -- part 8
  iapply (wpc_bind c)
  iapply (part8 m K c _ _ _ _) $$ [H121 H118 H119 H101 H102 H7 H8 H15 H16]
  · isplitr; · iexact He
    isplitl [H121]; · iexact H121
    isplitl [H118]; · iexact H118
    isplitl [H119]; · iexact H119
    isplitl [H101]; · iexact H101
    isplitl [H102]; · iexact H102
    isplitl [H7]; · iexact H7
    isplitl [H8]; · iexact H8
    isplitl [H15]; · iexact H15
    iexact H16
  iintro %r
  iintro ⟨H122, H123, H124⟩
  -- part 9
  iapply (wpc_bind c)
  iapply (part9 m K c _) $$ [H93 H74 H124 H103 H9 H17]
  · isplitr; · iexact He
    isplitl [H93]; · iexact H93
    isplitl [H74]; · iexact H74
    isplitl [H124]; · iexact H124
    isplitl [H103]; · iexact H103
    isplitl [H9]; · iexact H9
    iexact H17
  iintro ⟨H125, H126, H127, H128, H129, H130, H131, H132⟩
  -- part 10
  iapply (wpc_bind c)
  iapply (part10 m K c _) $$ [H132 H128 H129 H130 H104 H105 H106 H10 H11 H12 H18 H19 H20 H62 H70 H50]
  · isplitr; · iexact He
    isplitl [H132]; · iexact H132
    isplitl [H128]; · iexact H128
    isplitl [H129]; · iexact H129
    isplitl [H130]; · iexact H130
    isplitl [H104]; · iexact H104
    isplitl [H105]; · iexact H105
    isplitl [H106]; · iexact H106
    isplitl [H10]; · iexact H10
    isplitl [H11]; · iexact H11
    isplitl [H12]; · iexact H12
    isplitl [H18]; · iexact H18
    isplitl [H19]; · iexact H19
    isplitl [H20]; · iexact H20
    isplitl [H62]; · iexact H62
    isplitl [H70]; · iexact H70
    iexact H50
  iintro ⟨H133, H134, H135, H136, H137⟩
  -- part 11
  iapply (wpc_bind c)
  iapply (part11 m K c) $$ [H66 H65 H63 H71 H72 H51 H52 H54 H137 H77]
  · isplitr; · iexact He
    isplitl [H66]; · iexact H66
    isplitl [H65]; · iexact H65
    isplitl [H63]; · iexact H63
    isplitl [H71]; · iexact H71
    isplitl [H72]; · iexact H72
    isplitl [H51]; · iexact H51
    isplitl [H52]; · iexact H52
    isplitl [H54]; · iexact H54
    isplitl [H137]; · iexact H137
    iexact H77
  iintro ⟨H138, H139, H140, H141, H142, H143⟩
  -- part 12
  iapply (wpc_bind c)
  iapply (part12 m K c _) $$ [H138 H78 H64 H53 H143 H22 H39 H84]
  · isplitr; · iexact He
    isplitl [H138]; · iexact H138
    isplitl [H78]; · iexact H78
    isplitl [H64]; · iexact H64
    isplitl [H53]; · iexact H53
    isplitl [H143]; · iexact H143
    isplitl [H22]; · iexact H22
    isplitl [H39]; · iexact H39
    iexact H84
  iintro %r
  iintro ⟨H144, H145, H146, H147, H148, H149, H150, H151⟩
  -- part 13
  iapply (wpc_bind c)
  iapply (part13 m K c _ _) $$ [H151 H85 H23 H40 H148 H146 H136]
  · isplitr; · iexact He
    isplitl [H151]; · iexact H151
    isplitl [H85]; · iexact H85
    isplitl [H23]; · iexact H23
    isplitl [H40]; · iexact H40
    isplitl [H148]; · iexact H148
    isplitl [H146]; · iexact H146
    iexact H136
  iintro ⟨H152, H153, H154, H155, H156, H157, H158, H159, H160⟩
  ihave H161 := (Entails.of_eq (cut_o c (oA m c)).symm) $$ [H152 H153]
  · isplitl [H152]; · iexact H152
    iexact H153
  -- part 14
  iapply (wpc_bind c)
  iapply (part14 m K c _) $$ [H76 H161 H141 H142 H80 H157]
  · isplitr; · iexact He
    isplitl [H76]; · iexact H76
    isplitl [H161]; · iexact H161
    isplitl [H141]; · iexact H141
    isplitl [H142]; · iexact H142
    isplitl [H80]; · iexact H80
    iexact H157
  iintro ⟨H162, H163, H164, H165, H166, H167, H168, H169⟩
  ihave H163 := (Entails.of_eq (cut_o c (oB m c))) $$ H163
  icases H163 with ⟨H170, H171⟩
  -- part 15
  iapply (wpc_bind c)
  iapply (part15 m K c _) $$ [H24 H25 H41 H42 H169 H168 H170]
  · isplitr; · iexact He
    isplitl [H24]; · iexact H24
    isplitl [H25]; · iexact H25
    isplitl [H41]; · iexact H41
    isplitl [H42]; · iexact H42
    isplitl [H169]; · iexact H169
    isplitl [H168]; · iexact H168
    iexact H170
  iintro ⟨H172, H173, H174, H175, H176, H177, H178⟩
  -- part 16
  iapply (wpc_bind c)
  iapply (part16 m K c _ _ _) $$ [H171 H147 H79 H90 H91 H26 H43 H176]
  · isplitr; · iexact He
    isplitl [H171]; · iexact H171
    isplitl [H147]; · iexact H147
    isplitl [H79]; · iexact H79
    isplitl [H90]; · iexact H90
    isplitl [H91]; · iexact H91
    isplitl [H26]; · iexact H26
    isplitl [H43]; · iexact H43
    iexact H176
  iintro ⟨H179, H180, H181, H182, H183, H184, H185, H186, H187, H188⟩
  ihave H178 := (Entails.of_eq (cut_h0 c (oC m c))) $$ H178
  icases H178 with ⟨H189, H190⟩
  ihave H179 := (Entails.of_eq (cut_h1 c (oC m c))) $$ H179
  icases H179 with ⟨H191, H192⟩
  -- part 17
  iapply (wpc_bind c)
  iapply (part17 m K c _ _) $$ [H189 H187 H183 H86 H55 H27 H44 H190 H188]
  · isplitr; · iexact He
    isplitl [H189]; · iexact H189
    isplitl [H187]; · iexact H187
    isplitl [H183]; · iexact H183
    isplitl [H86]; · iexact H86
    isplitl [H55]; · iexact H55
    isplitl [H27]; · iexact H27
    isplitl [H44]; · iexact H44
    isplitl [H190]; · iexact H190
    iexact H188
  iintro ⟨H193, H194, H195, H196, H197, H198, H199⟩
  -- part 18
  iapply (wpc_bind c)
  iapply (part18 m K c _ _) $$ [H198 H197 H195 H87 H56 H28 H45 H191 H199]
  · isplitr; · iexact He
    isplitl [H198]; · iexact H198
    isplitl [H197]; · iexact H197
    isplitl [H195]; · iexact H195
    isplitl [H87]; · iexact H87
    isplitl [H56]; · iexact H56
    isplitl [H28]; · iexact H28
    isplitl [H45]; · iexact H45
    isplitl [H191]; · iexact H191
    iexact H199
  iintro ⟨H200, H201, H202, H203, H204, H205, H206⟩
  -- part 19
  iapply (wpc_bind c)
  iapply (part19 m K c _ _) $$ [H205 H202 H88 H57 H29 H46 H192 H206]
  · isplitr; · iexact He
    isplitl [H205]; · iexact H205
    isplitl [H202]; · iexact H202
    isplitl [H88]; · iexact H88
    isplitl [H57]; · iexact H57
    isplitl [H29]; · iexact H29
    isplitl [H46]; · iexact H46
    isplitl [H192]; · iexact H192
    iexact H206
  iintro ⟨H207, H208, H209, H210, H211, H212⟩
  -- part 20
  iapply (wpc_bind c)
  iapply (part20 m K c _) $$ [H211 H89 H58 H193 H200 H207 H212]
  · isplitr; · iexact He
    isplitl [H211]; · iexact H211
    isplitl [H89]; · iexact H89
    isplitl [H58]; · iexact H58
    isplitl [H193]; · iexact H193
    isplitl [H200]; · iexact H200
    isplitl [H207]; · iexact H207
    iexact H212
  iintro ⟨H213, H214, H215, H216, H217, H218, H219, H220, H221, H222, H223⟩
  -- part 21
  iapply (wpc_bind c)
  iapply (part21 m K c _) $$ [H222 H113 H120 H122 H31 H32 H33 H223]
  · isplitr; · iexact He
    isplitl [H222]; · iexact H222
    isplitl [H113]; · iexact H113
    isplitl [H120]; · iexact H120
    isplitl [H122]; · iexact H122
    isplitl [H31]; · iexact H31
    isplitl [H32]; · iexact H32
    isplitl [H33]; · iexact H33
    iexact H223
  iintro ⟨H224, H225, H226, H227, H228, H229, H230, H231, H232, H233⟩
  -- part 22
  iapply (wpc_bind c)
  iapply (part22 m K c) $$ [H123 H131 H133 H134 H34 H35 H36 H37 H233]
  · isplitr; · iexact He
    isplitl [H123]; · iexact H123
    isplitl [H131]; · iexact H131
    isplitl [H133]; · iexact H133
    isplitl [H134]; · iexact H134
    isplitl [H34]; · iexact H34
    isplitl [H35]; · iexact H35
    isplitl [H36]; · iexact H36
    isplitl [H37]; · iexact H37
    iexact H233
  iintro ⟨H234, H235, H236, H237, H238, H239, H240, H241, H242⟩
  simp only [Prog.lift, Prog.bind_op, Prog.bind_ret, Prog.pure_eq_ret]
  iapply (wait_send_quarter m c K 7 rfl rfl) $$ [H135 H242 H38]
  · isplitr; · iexact He
    isplitl [H135]; · iexact H135
    isplitl [H242]; · iexact H242
    iexact H38
  iintro ⟨H243, H244, H245⟩
  iapply Hk
  isplitl [H243]; · iexact H243
  isplitl [H97]; · iexact H97
  isplitl [H227]; · iexact H227
  isplitl [H228]; · iexact H228
  isplitl [H229]; · iexact H229
  isplitl [H234]; · iexact H234
  isplitl [H235]; · iexact H235
  isplitl [H236]; · iexact H236
  isplitl [H237]; · iexact H237
  isplitl [H244]; · iexact H244
  isplitl [H149]; · iexact H149
  isplitl [H155]; · iexact H155
  isplitl [H172]; · iexact H172
  isplitl [H173]; · iexact H173
  isplitl [H186]; · iexact H186
  isplitl [H196]; · iexact H196
  isplitl [H203]; · iexact H203
  isplitl [H209]; · iexact H209
  isplitl [H111]; · iexact H111
  isplitl [H127]; · iexact H127
  isplitl [H117]; · iexact H117
  isplitl [H160]; · iexact H160
  isplitl [H140]; · iexact H140
  isplitl [H145]; · iexact H145
  isplitl [H182]; · iexact H182
  isplitl [H167]; · iexact H167
  isplitl [H215]; · iexact H215
  isplitl [H218]; · iexact H218
  isplitl [H221]; · iexact H221
  isplitl [H226]; · iexact H226
  isplitl [H110]; · iexact H110
  isplitl [H126]; · iexact H126
  isplitl [H116]; · iexact H116
  isplitl [H159]; · iexact H159
  isplitl [H166]; · iexact H166
  isplitl [H181]; · iexact H181
  isplitl [H144]; · iexact H144
  isplitl [H139]; · iexact H139
  isplitl [H109]; · iexact H109
  isplitl [H125]; · iexact H125
  isplitl [H115]; · iexact H115
  isplitl [H158]; · iexact H158
  isplitl [H165]; · iexact H165
  isplitl [H180]; · iexact H180
  isplitl [H230]; · iexact H230
  isplitl [H231]; · iexact H231
  isplitl [H232]; · iexact H232
  isplitl [H238]; · iexact H238
  isplitl [H239]; · iexact H239
  isplitl [H240]; · iexact H240
  isplitl [H241]; · iexact H241
  isplitl [H245]; · iexact H245
  isplitl [H162]; · iexact H162
  isplitl [H164]; · iexact H164
  isplitl [H154]; · iexact H154
  isplitl [H208]; · iexact H208
  isplitl [H177]; · iexact H177
  isplitl [H150]; · iexact H150
  isplitl [H156]; · iexact H156
  isplitl [H174]; · iexact H174
  isplitl [H175]; · iexact H175
  isplitl [H194]; · iexact H194
  isplitl [H201]; · iexact H201
  isplitl [H204]; · iexact H204
  isplitl [H210]; · iexact H210
  isplitl [H214]; · iexact H214
  isplitl [H217]; · iexact H217
  isplitl [H220]; · iexact H220
  isplitl [H225]; · iexact H225
  isplitl [H213]; · iexact H213
  isplitl [H216]; · iexact H216
  isplitl [H219]; · iexact H219
  isplitl [H224]; · iexact H224
  isplitl [H184]; · iexact H184
  iexact H185

end Parts

end Cert.KProof

end
-- ==== Proof.Ghost.lean ====
/-
# The ghost state of the launch

The seventeen cells of each device are funded at round 0; their invariants are allocated; each device keeps its
positions and its twelve local semaphores, and the duty tokens are dealt from the owner of each cell to the device
that pays the duty. What a device is owed at launch: three units at its barrier and each incoming transfer's credit.
-/
module

public import proofs.«01_k».proof.Proof.Pieces

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The twelve of the local copies, the eight send ones, the eight receive ones. -/
abbrev osem : Fin 28 → SemLoc sig :=
  ![.dma (lS 0), .dma (lS 1), .dma (lS 2), .dma (lS 3), .dma (lS 4), .dma (lS 5), .dma (lS 6), .dma (lS 7),
    .dma (lS 8), .dma (lS 9), .dma (lS 10), .dma (lS 11),
    .dma (sS 0), .dma (sS 1), .dma (sS 2), .dma (sS 3), .dma (sS 4), .dma (sS 5), .dma (sS 6), .dma (sS 7),
    .dma (rS 0), .dma (rS 1), .dma (rS 2), .dma (rS 3), .dma (rS 4), .dma (rS 5), .dma (rS 6), .dma (rS 7)]

theorem ownSemFacts : Pipeline.OwnSemFacts cfg0.spec osem := by decide

/-! ## What is minted -/

def meshCells : Finset (GSem nD τ sig) := Finset.univ.map ⟨kcell, kcell_injective⟩

/-- The nineteen duties at a device's cells: which cell, -/
def tcell : Fin 19 → Fin 17 := ![0, 0, 0, 1, 2, 3, 4, 5, 6, 7, 8, 9, 10, 11, 12, 13, 14, 15, 16]
/-- and which of its duties. -/
def tduty : Fin 19 → Fin 3 := ![0, 1, 2, 0, 0, 0, 0, 0, 0, 0, 0, 0, 0, 0, 0, 0, 0, 0, 0]

theorem tix_injective : Function.Injective fun i : Fin 19 => (tcell i, tduty i) := by decide

/-- A duty's token, by the cell's owner and the duty. -/
abbrev tokOf (ci : Dev nD × Fin 19) : GSem nD τ sig × ℕ × Fin 3 := (kcell (ci.1, tcell ci.2), 0, tduty ci.2)

theorem tokOf_injective : Function.Injective (tokOf : Dev nD × Fin 19 → GSem nD τ sig × ℕ × Fin 3) := by
  rintro ⟨c, i⟩ ⟨c', i'⟩ h
  have h1 := kcell_injective (congrArg Prod.fst h)
  have h2 : tduty i = tduty i' := congrArg (fun x : GSem nD τ sig × ℕ × Fin 3 => x.2.2) h
  have h3 : c = c' := congrArg Prod.fst h1
  have h4 : i = i' := tix_injective (Prod.ext (congrArg Prod.snd h1) h2)
  rw [h3, h4]

def meshToks : Finset (GSem nD τ sig × ℕ × Fin 3) := Finset.univ.map ⟨tokOf, tokOf_injective⟩

/-- The launch element: the staging pipeline's rounds, the mesh protocol's, and no counters yet. -/
def u₀ : UU :=
  (initOf (Pipeline.cells cfgs cellOf_inj) (Pipeline.launchToks cfgs cellOf_inj), (initOf meshCells meshToks, 1))

omit [FloatOps F] in
theorem own_u₀ (a : UR sig nD τ) (b : UB) :
    (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
def toks (c : Dev nD) : sProp 𝕄 := bigSep Finset.univ fun i : Fin 19 => dutyTok ER (kcell (c, tcell i)) 0 (tduty i)

/-- A device's positions, all at round `n`. -/
def ats (c : Dev nD) (n : ℕ) : sProp 𝕄 := bigSep Finset.univ fun k : Fin 17 => atPos ER (kcell (c, k)) n ∅ 0

/-- Its cells' counters at zero, -/
def kSems (c : Dev nD) : sProp 𝕄 := bigSep Finset.univ fun k : Fin 17 => semVal (kcell (c, k)) 0

/-- and its local semaphores'. -/
def lzs (c : Dev nD) : sProp 𝕄 := bigSep Finset.univ fun i : Fin 12 => lz c i

/-- What the launch element deals device `c`. -/
def G (c : Dev nD) : sProp 𝕄 :=
  iprop((bigSep Finset.univ fun k : Fin 17 => roundState ER (Rd m) (kcell (c, k)) 0)
    ∗ (ats c 0 ∗ bigSep Finset.univ fun k : Fin 17 => reached ER (kcell (c, k)) 0) ∗ toks c)

theorem fund_mesh : BI.own (ER (initOf meshCells meshToks)) ⊢ (|==> bigSep Finset.univ (G m) : sProp 𝕄) := by
  have hX (Φ : GSem nD τ sig → sProp 𝕄) :
      bigSep meshCells Φ = bigSep Finset.univ fun c : Dev nD => bigSep Finset.univ fun k : Fin 17 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks toks; rw [bigSep_map, bigSep_univ_prod]; rfl
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat' Hr']
  · isplitl [Hat'] <;> iassumption
  iexact Htok'

/-! ## The chains, spelled out -/

omit [FloatOps F] in
theorem ats_eq (c : Dev nD) (n : ℕ) : (ats c n : sProp 𝕄) = iprop(atPos ER (barCell c) n ∅ 0 ∗ atPos ER (sCell c 0) n ∅ 0 ∗ atPos ER (sCell c 1) n ∅ 0 ∗ atPos ER (sCell c 2) n ∅ 0 ∗ atPos ER (sCell c 3) n ∅ 0 ∗ atPos ER (sCell c 4) n ∅ 0 ∗ atPos ER (sCell c 5) n ∅ 0 ∗ atPos ER (sCell c 6) n ∅ 0 ∗ atPos ER (sCell c 7) n ∅ 0 ∗ atPos ER (rCell c 0) n ∅ 0 ∗ atPos ER (rCell c 1) n ∅ 0 ∗ atPos ER (rCell c 2) n ∅ 0 ∗ atPos ER (rCell c 3) n ∅ 0 ∗ atPos ER (rCell c 4) n ∅ 0 ∗ atPos ER (rCell c 5) n ∅ 0 ∗ atPos ER (rCell c 6) n ∅ 0 ∗ atPos ER (rCell c 7) n ∅ 0) := by
  unfold ats
  rw [bigSep_univ_eq_bigSepL [0, 1, 2, 3, 4, 5, 6, 7, 8, 9, 10, 11, 12, 13, 14, 15, 16] (by decide) (by decide)]; rfl
omit [FloatOps F] in
theorem kSems_eq (c : Dev nD) : (kSems c : sProp 𝕄) = iprop(semVal (barCell c) 0 ∗ semVal (sCell c 0) 0 ∗ semVal (sCell c 1) 0 ∗ semVal (sCell c 2) 0 ∗ semVal (sCell c 3) 0 ∗ semVal (sCell c 4) 0 ∗ semVal (sCell c 5) 0 ∗ semVal (sCell c 6) 0 ∗ semVal (sCell c 7) 0 ∗ semVal (rCell c 0) 0 ∗ semVal (rCell c 1) 0 ∗ semVal (rCell c 2) 0 ∗ semVal (rCell c 3) 0 ∗ semVal (rCell c 4) 0 ∗ semVal (rCell c 5) 0 ∗ semVal (rCell c 6) 0 ∗ semVal (rCell c 7) 0) := by
  unfold kSems
  rw [bigSep_univ_eq_bigSepL [0, 1, 2, 3, 4, 5, 6, 7, 8, 9, 10, 11, 12, 13, 14, 15, 16] (by decide) (by decide)]; rfl
omit [FloatOps F] in
theorem lzs_eq (c : Dev nD) : (lzs c : sProp 𝕄) = iprop(lz c 0 ∗ lz c 1 ∗ lz c 2 ∗ lz c 3 ∗ lz c 4 ∗ lz c 5 ∗ lz c 6 ∗ lz c 7 ∗ lz c 8 ∗ lz c 9 ∗ lz c 10 ∗ lz c 11) := by
  unfold lzs
  rw [bigSep_univ_eq_bigSepL [0, 1, 2, 3, 4, 5, 6, 7, 8, 9, 10, 11] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop(lz c 0 ∗ lz c 1 ∗ lz c 2 ∗ lz c 3 ∗ lz c 4 ∗ lz c 5 ∗ lz c 6 ∗ lz c 7 ∗ lz c 8 ∗ lz c 9 ∗ lz c 10 ∗ lz c 11 ∗ semVal (sCell c 0) 0 ∗ semVal (sCell c 1) 0 ∗ semVal (sCell c 2) 0 ∗ semVal (sCell c 3) 0 ∗ semVal (sCell c 4) 0 ∗ semVal (sCell c 5) 0 ∗ semVal (sCell c 6) 0 ∗ semVal (sCell c 7) 0 ∗ semVal (rCell c 0) 0 ∗ semVal (rCell c 1) 0 ∗ semVal (rCell c 2) 0 ∗ semVal (rCell c 3) 0 ∗ semVal (rCell c 4) 0 ∗ semVal (rCell c 5) 0 ∗ semVal (rCell c 6) 0 ∗ semVal (rCell c 7) 0) := by
  rw [Pipeline.ownSems0_eq_of_list c osem [0, 1, 2, 3, 4, 5, 6, 7, 8, 9, 10, 11, 12, 13, 14, 15, 16, 17, 18, 19, 20, 21, 22, 23, 24, 25, 26, 27]
    (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The device's semaphores at zero are its cells' and its local ones, -/
theorem sems0_in (c : Dev nD) :
    iprop(Pipeline.ownSems0 (Ix := Unit) (Name := ℕ) (U := UU) (Lvl := ℕ) (Val := Elt F) (τ := τ) osem c ∗ unscopedSems0 c)
      ⊢ iprop(kSems c ∗ lzs c) := by
  rw [ownSems0_eq, unscopedSems0_eq, kSems_eq, lzs_eq]
  iintro ⟨⟨L0, L1, L2, L3, L4, L5, L6, L7, L8, L9, L10, L11, S0, S1, S2, S3, S4, S5, S6, S7, R0, R1, R2, R3, R4, R5, R6, R7⟩, HB⟩
  isplitl [HB S0 S1 S2 S3 S4 S5 S6 S7 R0 R1 R2 R3 R4 R5 R6 R7]
  · isplitl [HB]; · iexact HB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    iexact L11

omit [FloatOps F] in
/-- and back. -/
theorem sems0_out (c : Dev nD) : iprop(kSems c ∗ lzs c)
      ⊢ iprop(Pipeline.ownSems0 (Ix := Unit) (Name := ℕ) (U := UU) (Lvl := ℕ) (Val := Elt F) (τ := τ) osem c ∗ unscopedSems0 c) := by
  rw [ownSems0_eq, unscopedSems0_eq, kSems_eq, lzs_eq]
  iintro ⟨⟨HB, S0, S1, S2, S3, S4, S5, S6, S7, R0, R1, R2, R3, R4, R5, R6, R7⟩, L0, L1, L2, L3, L4, L5, L6, L7, L8, L9, L10, L11⟩
  isplitl [L0 L1 L2 L3 L4 L5 L6 L7 L8 L9 L10 L11 S0 S1 S2 S3 S4 S5 S6 S7 R0 R1 R2 R3 R4 R5 R6 R7]
  · isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    isplitl [L11]; · iexact L11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · iexact HB

/-! ## Allocating the invariants, dealing the tokens -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (ats c 0 ∗ lzs c) ∗ (bigSep Finset.univ fun k : Fin 17 => reached ER (kcell (c, k)) 0) ∗ toks c) := by
  have hinv : iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, ⟨Hat, Hr⟩, Htok⟩
  ihave Hv := (sems0_in (F := F) c) $$ [Hos Hus]
  · isplitl [Hos] <;> iassumption
  icases Hv with ⟨Hk, Hl⟩
  unfold kSems
  imod hinv $$ [Hk Hst] with Hinv
  · isplitl [Hk] <;> iassumption
  imodintro
  isplitl [Hinv]; · iexact Hinv
  isplitl [Hat Hl]
  · isplitl [Hat] <;> iassumption
  isplitl [Hr] <;> iassumption

/-- The device that pays duty `i` of device `c`'s table of payments: its own send cells, elsewhere another's. -/
def payee (c : Dev nD) : Fin 19 → Dev nD :=
  ![pl c 1, pl c 2, pl c 3, c, c, c, c, c, c, c, c, dst c 0, dst c 1, dst c 2, dst c 3, dst c 4, dst c 5, dst c 6, dst c 7]

theorem payee_bijective : Function.Bijective fun ci : Dev nD × Fin 19 => (payee ci.1 ci.2, ci.2) := by
  rw [← Finite.injective_iff_bijective]
  rintro ⟨c, i⟩ ⟨c', i'⟩ h
  have h1 : i = i' := congrArg Prod.snd h
  subst h1
  have h2 : payee c i = payee c' i := congrArg Prod.fst h
  have key : ∀ (i : Fin 19) (c c' : Dev nD), payee c i = payee c' i → c = c' := by decide
  rw [key i c c' h2]

/-- The tokens of the duties device `c` pays. -/
def payToks (c : Dev nD) : sProp 𝕄 := bigSep Finset.univ fun i : Fin 19 => dutyTok ER (kcell (payee c i, tcell i)) 0 (tduty i)

omit [FloatOps F] in
/-- Dealing the tokens from the cells' owners to the payers. -/
theorem toks_around : (bigSep Finset.univ fun c : Dev nD => (toks c : sProp 𝕄)) = bigSep Finset.univ fun c : Dev nD => payToks c := by
  unfold toks payToks
  rw [← bigSep_univ_prod (fun ci : Dev nD × Fin 19 => (dutyTok ER (kcell (ci.1, tcell ci.2)) 0 (tduty ci.2) : sProp 𝕄)),
    bigSep_univ_equiv (Equiv.ofBijective _ payee_bijective), bigSep_univ_prod]
  rfl

omit [FloatOps F] in
theorem payToks_eq (c : Dev nD) : (payToks c : sProp 𝕄) = iprop(dutyTok ER (barCell (pl c 1)) 0 0 ∗ dutyTok ER (barCell (pl c 2)) 0 1 ∗ dutyTok ER (barCell (pl c 3)) 0 2 ∗ dutyTok ER (sCell c 0) 0 0 ∗ dutyTok ER (sCell c 1) 0 0 ∗ dutyTok ER (sCell c 2) 0 0 ∗ dutyTok ER (sCell c 3) 0 0 ∗ dutyTok ER (sCell c 4) 0 0 ∗ dutyTok ER (sCell c 5) 0 0 ∗ dutyTok ER (sCell c 6) 0 0 ∗ dutyTok ER (sCell c 7) 0 0 ∗ dutyTok ER (rCell (dst c 0) 0) 0 0 ∗ dutyTok ER (rCell (dst c 1) 1) 0 0 ∗ dutyTok ER (rCell (dst c 2) 2) 0 0 ∗ dutyTok ER (rCell (dst c 3) 3) 0 0 ∗ dutyTok ER (rCell (dst c 4) 4) 0 0 ∗ dutyTok ER (rCell (dst c 5) 5) 0 0 ∗ dutyTok ER (rCell (dst c 6) 6) 0 0 ∗ dutyTok ER (rCell (dst c 7) 7) 0 0) := by
  unfold payToks
  rw [bigSep_univ_eq_bigSepL [0, 1, 2, 3, 4, 5, 6, 7, 8, 9, 10, 11, 12, 13, 14, 15, 16, 17, 18] (by decide) (by decide)]; rfl

/-- The invariants and the records every device may use. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- What is device `c`'s alone. -/
def linear (c : Dev nD) : sProp 𝕄 := iprop((ats c 0 ∗ lzs c) ∗ payToks c)

/-- What the global step makes of the launch's deal. -/
def G' (c : Dev nD) : sProp 𝕄 := iprop(∃ K, records m K ∗ linear c)

omit [FloatOps F] in
theorem bigSep_persistent_left {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (ats c 0 ∗ lzs c) ∗ (bigSep Finset.univ fun k : Fin 17 => reached ER (kcell (c, k)) 0) ∗ toks c) : sProp 𝕄)
      ⊢ bigSep Finset.univ (G' m) := by
  rw [bigSep_sep', bigSep_sep', bigSep_sep' Finset.univ (fun c : Dev nD => bigSep Finset.univ fun k : Fin 17 => (reached ER (kcell (c, k)) 0 : sProp 𝕄)) toks, toks_around, ← bigSep_univ_prod (fun ck : Dev nD × Fin 17 => iprop(∃ κ : ℕ, cellInv ER (Rd m) κ (kcell ck))),
    ← bigSep_univ_prod (fun ck : Dev nD × Fin 17 => (reached ER (kcell ck) 0 : sProp 𝕄))]
  iintro ⟨HI, Hat, #HR, Htok⟩
  ihave HK := (BI.bigSep_exists_pi Finset.univ (fun (ck : Dev nD × Fin 17) (κ : ℕ) => (cellInv ER (Rd m) κ (kcell ck) : sProp 𝕄))) $$ HI
  icases HK with ⟨%K, #HI⟩
  have hc : ∀ c ∈ (Finset.univ : Finset (Dev nD)), iprop(records m K ∗ linear c) ⊢ G' m c := fun c _ => by
    unfold G'; iintro H; iexists K; iexact H
  iapply (bigSep_persistent_left (R := records m K) hc)
  isplitr
  · unfold records; isplitl; · iexact HI
    iexact HR
  · unfold linear
    rw [bigSep_sep' Finset.univ (fun c : Dev nD => iprop((ats c 0 : sProp 𝕄) ∗ lzs c)) payToks]
    isplitl [Hat] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kR_injective : Function.Injective kR := by decide

theorem rCell_inj {a b : Dev nD} {t u : Fin 8} (h : rCell a t = rCell b u) : a = b ∧ t = u := by
  rw [rCell_eq, rCell_eq] at h
  have h1 := kcell_injective h
  exact ⟨congrArg Prod.fst h1, kR_injective (congrArg Prod.snd h1)⟩
theorem barCell_inj {a b : Dev nD} (h : barCell a = barCell b) : a = b := congrArg (fun g : GSem nD τ sig => g.1.1) h
theorem rCell_ne_bar (a b : Dev nD) (t : Fin 8) : rCell a t ≠ barCell b := fun h => by cases congrArg Prod.snd h

/-- What `OS` owes a receive cell, -/
theorem OS_r (d c : Dev nD) (t : Fin 8) : OS d 0 (rCell c t) () = if c = dst d t then amt t else 0 := by
  unfold OS
  rw [Finset.sum_apply, Finsupp.finset_sum_apply, Finset.sum_eq_single t]
  · rw [tallyAt_apply]
    by_cases h : c = dst d t
    · rw [if_pos h, if_pos ⟨by rw [h], rfl⟩]
    · rw [if_neg h, if_neg fun h' => h (rCell_inj h'.1).1]
  · intro u _ hu
    rw [tallyAt_apply, if_neg fun h' => hu (rCell_inj h'.1).2.symm]
  · intro h; exact absurd (Finset.mem_filter.mpr ⟨Finset.mem_univ t, Nat.zero_le _⟩) h
/-- and a barrier. -/
theorem OS_bar (d c : Dev nD) : OS d 0 (barCell c) () = 0 := by
  unfold OS
  rw [Finset.sum_apply, Finsupp.finset_sum_apply]
  exact Finset.sum_eq_zero fun u _ => by rw [tallyAt_apply, if_neg fun h' => rCell_ne_bar _ _ _ h'.1.symm]

theorem bar_r (d c : Dev nD) (t : Fin 8) : tallyAt (barCell d) () 1 (rCell c t) () = 0 := by
  rw [tallyAt_apply, if_neg fun h' => rCell_ne_bar _ _ _ h'.1]
theorem bar_bar (d c : Dev nD) : tallyAt (barCell d) () 1 (barCell c) () = if c = d then 1 else 0 := by
  rw [tallyAt_apply]
  by_cases h : c = d
  · rw [if_pos h, if_pos ⟨by rw [h], rfl⟩]
  · rw [if_neg h, if_neg fun h' => h (barCell_inj h'.1)]

theorem owed_r (d c : Dev nD) (t : Fin 8) : O₀ d (rCell c t) () = amt t * if c = dst d t then 1 else 0 := by
  unfold O₀ O2 O3
  rw [Pi.add_apply, Finsupp.add_apply, Pi.add_apply, Finsupp.add_apply, Pi.add_apply, Finsupp.add_apply, OS_r, bar_r, bar_r, bar_r]
  by_cases h : c = dst d t
  · rw [if_pos h, if_pos h, Nat.mul_one]; rfl
  · rw [if_neg h, if_neg h, Nat.mul_zero]
theorem owed_bar (d c : Dev nD) : O₀ d (barCell c) ()
    = (if c = pl d 3 then 1 else 0) + (if c = pl d 2 then 1 else 0) + (if c = pl d 1 then 1 else 0) := by
  unfold O₀ O2 O3
  rw [Pi.add_apply, Finsupp.add_apply, Pi.add_apply, Finsupp.add_apply, Pi.add_apply, Finsupp.add_apply, OS_bar, bar_bar, bar_bar, bar_bar, Nat.zero_add]

theorem sum_r : ∀ (t : Fin 8) (c : Dev nD), (∑ d : Dev nD, if c = dst d t then 1 else 0) = 1 := by decide
theorem sum_bar : ∀ c : Dev nD, (∑ d : Dev nD, ((if c = pl d 3 then 1 else 0) + (if c = pl d 2 then 1 else 0) + (if c = pl d 1 then 1 else 0))) = 3 := by decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]
theorem launch_r (c : Dev nD) (t : Fin 8) :
    tallyOn (rCell c t) (launchCredit (Pipeline.owing O₀) 0 (rCell c t)) = (tallyAt (rCell c t) () (amt t) : CellTallies nD τ sig Unit) := by
  unfold tallyAt; refine congrArg _ (Finsupp.ext fun u => ?_); cases u
  rw [Pipeline.launchCredit_owing, Finsupp.single_eq_same, Finset.sum_congr rfl fun d _ => owed_r d c t, ← Finset.mul_sum, sum_r, Nat.mul_one]

theorem rS_injective : Function.Injective fun t : Fin 8 => (SemLoc.dma (rS t) : SemLoc sig) := by decide

/-- The credit device `c` holds at launch. -/
def creds (c : Dev nD) : sProp 𝕄 :=
  iprop(cred (tallyAt (barCell c) () 3) ∗ bigSep Finset.univ fun t : Fin 8 => cred (tallyAt (rCell c t) () (amt t)))

omit [FloatOps F] in
theorem creds_eq (c : Dev nD) : (creds c : sProp 𝕄) = iprop(cred (tallyAt (barCell c) () 3) ∗ cred (tallyAt (rCell c 0) () (amt 0)) ∗ cred (tallyAt (rCell c 1) () (amt 1)) ∗ cred (tallyAt (rCell c 2) () (amt 2)) ∗ cred (tallyAt (rCell c 3) () (amt 3)) ∗ cred (tallyAt (rCell c 4) () (amt 4)) ∗ cred (tallyAt (rCell c 5) () (amt 5)) ∗ cred (tallyAt (rCell c 6) () (amt 6)) ∗ cred (tallyAt (rCell c 7) () (amt 7))) := by
  unfold creds
  rw [bigSep_univ_eq_bigSepL [0, 1, 2, 3, 4, 5, 6, 7] (by decide) (by decide)]; rfl

omit [FloatOps F] in
theorem creds_intro (c : Dev nD) : (Pipeline.launchCred O₀ c : sProp 𝕄) ⊢ creds c := by
  have hsub : (Finset.univ.map ⟨_, rS_injective⟩ : Finset (SemLoc sig)) ⊆ Finset.univ.erase (SemLoc.reg barS) := fun s hs => by
    obtain ⟨t, -, rfl⟩ := Finset.mem_map.mp hs
    exact Finset.mem_erase.mpr ⟨(by show SemLoc.dma (rS t) ≠ SemLoc.reg barS; revert t; decide), Finset.mem_univ _⟩
  unfold Pipeline.launchCred creds
  rw [bigSep_univ_at _ (SemLoc.reg barS), launch_bar]
  refine sep_mono_right ?_
  rw [BI.bigSep_sdiff_split hsub, bigSep_map]
  refine (Laws.sep_elim_left).trans (bigSep_mono fun t _ => ?_)
  exact Entails.of_eq (congrArg cred (launch_r c t))

end Cert.KProof

end
-- ==== Proof.Region.lean ====
/-
# The body at its region

The body's resources cut for it and put together again after it, its cells closed, and the launch's body obligation.
-/
module

public import proofs.«01_k».proof.Proof.Body
public import proofs.«01_k».proof.Proof.Gen.KernelIdeal.Points
public import proofs.«01_k».proof.Proof.Ghost

@[expose] public section

set_option maxRecDepth 16384

noncomputable section

namespace Cert.KProof

open Idealize.ShloMosaic.Pipeline (Dat Cfg Window BodyObligation cellOf)
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- The window of `x` by its four slots. -/
theorem open_x (c : Dev nD) :
    (iprop(∃ f : Vec F S4x1024x1024 .f32, xM.view.loc (c : Thread nD τ) ↦{fullShare} f) : sProp 𝕄) ⊢ iprop((∃ f, xP c 0 f) ∗ (∃ f, xP c 1 f) ∗ (∃ f, xP c 2 f) ∗ (∃ f, xP c 3 f)) := by
  iintro ⟨%f, H⟩
  ihave H' := (Entails.of_eq (cut_x c f)) $$ H
  icases H' with ⟨H0, H1, H2, H3⟩
  isplitl [H0]; · iexists f; iexact H0
  isplitl [H1]; · iexists f; iexact H1
  isplitl [H2]; · iexists f; iexact H2
  iexists f; iexact H3

/-- The window of `w` by its two slots. -/
theorem open_w (c : Dev nD) :
    (iprop(∃ f : Vec F S2x1024x2048 .f32, wM.view.loc (c : Thread nD τ) ↦{fullShare} f) : sProp 𝕄) ⊢ iprop((∃ f, wP c 0 f) ∗ (∃ f, wP c 1 f)) := by
  iintro ⟨%f, H⟩
  ihave H' := (Entails.of_eq (cut_w c f)) $$ H
  icases H' with ⟨H0, H1⟩
  isplitl [H0]; · iexists f; iexact H0
  iexists f; iexact H1

/-- The send buffer by its slots. -/
theorem open_s (c : Dev nD) :
    (iprop(∃ f : FVec F S4x1024x1024 .fp8e5m2, sM.view.loc (c : Thread nD τ) ↦{fullShare} f) : sProp 𝕄) ⊢ iprop((∃ f, sQ c 0 f) ∗ (∃ f, sQ c 1 f) ∗ (∃ f, sQ c 2 f) ∗ (∃ f, sQ c 3 f)) := by
  iintro ⟨%f, H⟩
  ihave H' := (Entails.of_eq (cut_sq c f)) $$ H
  icases H' with ⟨H0, H1, H2, H3⟩
  isplitl [H0]; · iexists f; iexact H0
  isplitl [H1]; · iexists f; iexact H1
  isplitl [H2]; · iexists f; iexact H2
  iexists f; iexact H3

/-- The buffer of rounded weights by its slots. -/
theorem open_v (c : Dev nD) :
    (iprop(∃ f : FVec F S4x1024x2048 .fp8e5m2, vM.view.loc (c : Thread nD τ) ↦{fullShare} f) : sProp 𝕄) ⊢ iprop((∃ f, vP c 0 f) ∗ (∃ f, vP c 1 f) ∗ (∃ f, vP c 2 f) ∗ (∃ f, vP c 3 f)) := by
  iintro ⟨%f, H⟩
  ihave H' := (Entails.of_eq (cut_v c f)) $$ H
  icases H' with ⟨H0, H1, H2, H3⟩
  isplitl [H0]; · iexists f; iexact H0
  isplitl [H1]; · iexists f; iexact H1
  isplitl [H2]; · iexists f; iexact H2
  iexists f; iexact H3

/-- The result by its quarters. -/
theorem open_y (c : Dev nD) :
    (iprop(∃ f : Vec F S1024x2048 .f32, yM.view.loc (c : Thread nD τ) ↦{fullShare} f) : sProp 𝕄) ⊢ iprop((∃ f, yP c 0 256 f) ∗ (∃ f, yP c 256 256 f) ∗ (∃ f, yP c 512 256 f) ∗ (∃ f, yP c 768 256 f)) := by
  iintro ⟨%f, H⟩
  ihave H' := (Entails.of_eq (cut_y c f)) $$ H
  icases H' with ⟨H0, H1, H2, H3⟩
  isplitl [H0]; · iexists f; iexact H0
  isplitl [H1]; · iexists f; iexact H1
  isplitl [H2]; · iexists f; iexact H2
  iexists f; iexact H3

/-- The accumulator by its halves. -/
theorem open_o (c : Dev nD) : (iprop(∃ f : Vec F S1024x2048 .f32, oM.view.loc (c : Thread nD τ) ↦{fullShare} f) : sProp 𝕄)
    ⊢ iprop((∃ f, oP c 0 512 f) ∗ (∃ f, oP c 512 512 f)) := by
  iintro ⟨%f, H⟩
  ihave H' := (Entails.of_eq (cut_ou c f)) $$ H
  icases H' with ⟨H0, H1, H2, H3⟩
  isplitl [H0 H1]
  · iexists f; iapply (Entails.of_eq (cut_h0 c f).symm)
    isplitl [H0] <;> iassumption
  · iexists f; iapply (Entails.of_eq (cut_h1 c f).symm)
    isplitl [H2] <;> iassumption

theorem pl_back (c : Dev nD) : pl (pl c 1) 3 = c ∧ pl (pl c 2) 2 = c ∧ pl (pl c 3) 1 = c := by
  revert c; decide

/-- The receive buffer by what the device hands its three peers at the barrier. -/
theorem open_r (c : Dev nD) : (iprop(∃ f : FVec F S3x1024x1024 .fp8e5m2, rM.view.loc (c : Thread nD τ) ↦{fullShare} f) : sProp 𝕄)
    ⊢ iprop(barPay (pl c 1) 0 ∗ barPay (pl c 2) 1 ∗ barPay (pl c 3) 2) := by
  obtain ⟨h1, h2, h3⟩ := pl_back c
  unfold barPay
  simp only [h1, h2, h3]
  iintro ⟨%f, H⟩
  ihave H' := (Entails.of_eq (cut_r3 c f)) $$ H
  icases H' with ⟨Ha, Hb, Hc⟩
  ihave Ha' := (Entails.of_eq (cut_r0 c f)) $$ Ha
  icases Ha' with ⟨H0, H1⟩
  ihave Hb' := (Entails.of_eq (cut_r1 c f)) $$ Hb
  icases Hb' with ⟨H4, H5, H6, H7⟩
  ihave Hc' := (Entails.of_eq (cut_r2 c f)) $$ Hc
  icases Hc' with ⟨H2, H3⟩
  isplitl [H2 H3]
  · isplitl [H2]; · iexists f; iexact H2
    iexists f; iexact H3
  isplitl [H4 H5 H6 H7]
  · isplitl [H4]; · iexists f; iexact H4
    isplitl [H5]; · iexists f; iexact H5
    isplitl [H6]; · iexists f; iexact H6
    iexists f; iexact H7
  · isplitl [H0]; · iexists f; iexact H0
    iexists f; iexact H1

/-- The two slots of `w`'s window, whatever each holds, are the window. -/
theorem shut_w (c : Dev nD) (f g : Vec F S2x1024x2048 .f32) : (iprop(wP c 0 f ∗ wP c 1 g) : sProp 𝕄)
    ⊢ iprop(∃ h : Vec F S2x1024x2048 .f32, wM.view.loc (c : Thread nD τ) ↦{fullShare} h) := by
  have hd : Disjoint (box S2x1024x2048 ![0, 0, 0] ![1, 1024, 2048] : Finset S2x1024x2048.Idx) (box S2x1024x2048 ![1, 0, 0] ![1, 1024, 2048]) := by
    rw [Finset.disjoint_left]; intro i; simp only [Finset.mem_union, mem_box3]; omega
  have hu : (box S2x1024x2048 ![0, 0, 0] ![1, 1024, 2048] : Finset S2x1024x2048.Idx) ∪ (box S2x1024x2048 ![1, 0, 0] ![1, 1024, 2048]) = Finset.univ := by
    ext i; simp only [Finset.mem_union, mem_box3, Finset.mem_univ, iff_true]
    have h0 := lt3_0 i; have h1 := lt3_1 i; have h2 := lt3_2 i; omega
  refine (pointsTo_join (ℓ := wM.view.loc (c : Thread nD τ)) hd).trans ?_
  rw [hu]
  iintro H; iexists _; iexact H

/-- The send buffer from its pieces, -/
theorem shut_s (c : Dev nD) (f : FVec F S4x1024x1024 .fp8e5m2) : (iprop(sP c 0 f ∗ sP c 1 f ∗ sP c 2 f ∗ sP c 3 f ∗ sP c 4 f ∗ sP c 5 f ∗ sP c 6 f ∗ sP c 7 f ∗ sQ c 3 f) : sProp 𝕄)
    ⊢ (sM.view.loc (c : Thread nD τ) ↦{fullShare} f : sProp 𝕄) := by
  iintro ⟨H0, H1, H2, H3, H4, H5, H6, H7, HQ⟩
  iapply (Entails.of_eq (cut_sq c f).symm)
  isplitl [H0 H1]
  · iapply (Entails.of_eq (cut_s0 c f).symm); isplitl [H0] <;> iassumption
  isplitl [H4 H5 H6 H7]
  · iapply (Entails.of_eq (cut_s1 c f).symm); isplitl [H4]; · iexact H4
    isplitl [H5]; · iexact H5
    isplitl [H6] <;> iassumption
  isplitl [H2 H3]
  · iapply (Entails.of_eq (cut_s2 c f).symm); isplitl [H2] <;> iassumption
  iexact HQ

/-- and the receive buffer from its own. -/
theorem shut_r (c : Dev nD) (f : FVec F S3x1024x1024 .fp8e5m2) : (iprop(rP c 0 f ∗ rP c 1 f ∗ rP c 2 f ∗ rP c 3 f ∗ rP c 4 f ∗ rP c 5 f ∗ rP c 6 f ∗ rP c 7 f) : sProp 𝕄)
    ⊢ (rM.view.loc (c : Thread nD τ) ↦{fullShare} f : sProp 𝕄) := by
  iintro ⟨H0, H1, H2, H3, H4, H5, H6, H7⟩
  iapply (Entails.of_eq (cut_r3 c f).symm)
  isplitl [H0 H1]
  · iapply (Entails.of_eq (cut_r0 c f).symm); isplitl [H0] <;> iassumption
  isplitl [H4 H5 H6 H7]
  · iapply (Entails.of_eq (cut_r1 c f).symm); isplitl [H4]; · iexact H4
    isplitl [H5]; · iexact H5
    isplitl [H6] <;> iassumption
  · iapply (Entails.of_eq (cut_r2 c f).symm); isplitl [H2] <;> iassumption

/-! ## What the run starts from and leaves -/

/-- The staged scales, -/
def s2 (c : Dev nD) : Vec F S1 .f32 := (win0_0.blk t0_0).view.read (Elt F) (m ((c : Thread nD τ).loc main_arg2))
def s3 (c : Dev nD) : Vec F S1 .f32 := (win0_1.blk t0_0).view.read (Elt F) (m ((c : Thread nD τ).loc main_arg3))
/-- their product, -/
def scale (c : Dev nD) : F .f32 := k0_pay18 (rd2 (s2 m c)) (rd3 (s3 m c))
/-- and the result the device writes. -/
def out (c : Dev nD) : Vec F S1024x2048 .f32 := oD m c (scale m c)

/-- The device's arrays, the result at `y`. -/
def arrs (c : Dev nD) (y : Vec F S1024x2048 .f32) : sProp 𝕄 :=
  iprop((aM.view.loc (c : Thread nD τ) ↦{fullShare} xv m c) ∗ (bM.view.loc (c : Thread nD τ) ↦{fullShare} wv m c)
    ∗ (yM.view.loc (c : Thread nD τ) ↦{fullShare} y))

/-- The six scratch buffers, at some contents. -/
def scr (c : Dev nD) : sProp 𝕄 :=
  iprop((∃ f : Vec F S4x1024x1024 .f32, xM.view.loc (c : Thread nD τ) ↦{fullShare} f)
    ∗ (∃ f : Vec F S2x1024x2048 .f32, wM.view.loc (c : Thread nD τ) ↦{fullShare} f)
    ∗ (∃ f : FVec F S4x1024x1024 .fp8e5m2, sM.view.loc (c : Thread nD τ) ↦{fullShare} f)
    ∗ (∃ f : FVec F S3x1024x1024 .fp8e5m2, rM.view.loc (c : Thread nD τ) ↦{fullShare} f)
    ∗ (∃ f : FVec F S4x1024x2048 .fp8e5m2, vM.view.loc (c : Thread nD τ) ↦{fullShare} f)
    ∗ (∃ f : Vec F S1024x2048 .f32, oM.view.loc (c : Thread nD τ) ↦{fullShare} f))

/-- What device `c` starts from beside its buffers. -/
def start (c : Dev nD) : sProp 𝕄 := iprop((∃ K, env m K ∗ linear c) ∗ creds c)

/-- Before the body and after it. -/
def Φ₀ (c : Dev nD) : sProp 𝕄 := iprop(start m c ∗ arrs m c (m ((c : Thread nD τ).loc main_v1)) ∗ scr c)
def Φ₁ (c : Dev nD) : sProp 𝕄 := iprop((kSems c ∗ lzs c) ∗ arrs m c (out m c) ∗ scr c)

/-! ## Closing the cells -/

/-- A cell whose one round is over gives its counter back, at zero. -/
theorem close_cell (K : Dev nD × Fin 17 → ℕ) (c : Dev nD) (k : Fin 17) :
    iprop(env m K ∗ atPos ER (kcell (c, k)) 1 ∅ 0) ⊢ |={Set.univ}=> (semVal (kcell (c, k)) 0 : sProp 𝕄) := by
  iintro ⟨He, Hat⟩
  ihave HI' := (env_inv m K (c, k)) $$ He
  imod (Rounds.cell_close ER (Rd m) (Set.mem_univ (K (c, k))) (fun h => h) (R := 0 + 1) (duties_later m (kcell (c, k)))) $$ [HI' Hat] with Hz
  · isplitl [HI']; · iexact HI'
    iexact Hat
  imodintro
  iexact Hz

/-- All seventeen. -/
theorem close_cells (K : Dev nD × Fin 17 → ℕ) (c : Dev nD) : iprop(env m K ∗ ats c 1) ⊢ |={Set.univ}=> (kSems c : sProp 𝕄) := by
  unfold ats kSems
  exact (bigSep_persistent_left (R := env m K) fun k _ => close_cell m K c k).trans (bigSep_fupd _ _)

set_option maxHeartbeats 1600000 in
/-- The body's resources, piece by piece. -/
theorem enter (c : Dev nD) (f2 f3 : Vec F S1 .f32) (y : Vec F S1024x2048 .f32) :
    iprop(ow c (O₀ c) ∗ linear c ∗ creds c ∗ arrs m c y ∗ scr c ∗ g2P c f2 ∗ g3P c f3)
      ⊢ (iprop(ow c (O₀ c) ∗ dutyTok ER (barCell (pl c 1)) 0 0 ∗ dutyTok ER (barCell (pl c 2)) 0 1 ∗ dutyTok ER (barCell (pl c 3)) 0 2 ∗ dutyTok ER (sCell c 0) 0 0 ∗ dutyTok ER (sCell c 1) 0 0 ∗ dutyTok ER (sCell c 2) 0 0 ∗ dutyTok ER (sCell c 3) 0 0 ∗ dutyTok ER (sCell c 4) 0 0 ∗ dutyTok ER (sCell c 5) 0 0 ∗ dutyTok ER (sCell c 6) 0 0 ∗ dutyTok ER (sCell c 7) 0 0 ∗ dutyTok ER (rCell (dst c 0) 0) 0 0 ∗ dutyTok ER (rCell (dst c 1) 1) 0 0 ∗ dutyTok ER (rCell (dst c 2) 2) 0 0 ∗ dutyTok ER (rCell (dst c 3) 3) 0 0 ∗ dutyTok ER (rCell (dst c 4) 4) 0 0 ∗ dutyTok ER (rCell (dst c 5) 5) 0 0 ∗ dutyTok ER (rCell (dst c 6) 6) 0 0 ∗ dutyTok ER (rCell (dst c 7) 7) 0 0 ∗ cred (tallyAt (barCell c) () 3) ∗ cred (tallyAt (rCell c 0) () (amt 0)) ∗ cred (tallyAt (rCell c 1) () (amt 1)) ∗ cred (tallyAt (rCell c 2) () (amt 2)) ∗ cred (tallyAt (rCell c 3) () (amt 3)) ∗ cred (tallyAt (rCell c 4) () (amt 4)) ∗ cred (tallyAt (rCell c 5) () (amt 5)) ∗ cred (tallyAt (rCell c 6) () (amt 6)) ∗ cred (tallyAt (rCell c 7) () (amt 7)) ∗ atPos ER (barCell c) 0 ∅ 0 ∗ atPos ER (sCell c 0) 0 ∅ 0 ∗ atPos ER (sCell c 1) 0 ∅ 0 ∗ atPos ER (sCell c 2) 0 ∅ 0 ∗ atPos ER (sCell c 3) 0 ∅ 0 ∗ atPos ER (sCell c 4) 0 ∅ 0 ∗ atPos ER (sCell c 5) 0 ∅ 0 ∗ atPos ER (sCell c 6) 0 ∅ 0 ∗ atPos ER (sCell c 7) 0 ∅ 0 ∗ atPos ER (rCell c 0) 0 ∅ 0 ∗ atPos ER (rCell c 1) 0 ∅ 0 ∗ atPos ER (rCell c 2) 0 ∅ 0 ∗ atPos ER (rCell c 3) 0 ∅ 0 ∗ atPos ER (rCell c 4) 0 ∅ 0 ∗ atPos ER (rCell c 5) 0 ∅ 0 ∗ atPos ER (rCell c 6) 0 ∅ 0 ∗ atPos ER (rCell c 7) 0 ∅ 0 ∗ lz c 0 ∗ lz c 1 ∗ lz c 2 ∗ lz c 3 ∗ lz c 4 ∗ lz c 5 ∗ lz c 6 ∗ lz c 7 ∗ lz c 8 ∗ lz c 9 ∗ lz c 10 ∗ lz c 11 ∗ aP m c (0 + 1) ∗ aP m c (1 + 1) ∗ aP m c (2 + 1) ∗ aP m c (3 + 1) ∗ bP m c 1 ∗ bP m c 2 ∗ bP m c 3 ∗ bP m c 4 ∗ (∃ f, xP c 0 f) ∗ (∃ f, xP c 1 f) ∗ (∃ f, xP c 2 f) ∗ (∃ f, xP c 3 f) ∗ (∃ f, wP c 0 f) ∗ (∃ f, wP c 1 f) ∗ (∃ f, sQ c 0 f) ∗ (∃ f, sQ c 1 f) ∗ (∃ f, sQ c 2 f) ∗ (∃ f, sQ c 3 f) ∗ (∃ f, vP c 0 f) ∗ (∃ f, vP c 1 f) ∗ (∃ f, vP c 2 f) ∗ (∃ f, vP c 3 f) ∗ barPay (pl c 1) 0 ∗ barPay (pl c 2) 1 ∗ barPay (pl c 3) 2 ∗ (∃ f, oP c 0 512 f) ∗ (∃ f, oP c 512 512 f) ∗ (∃ f, yP c 0 256 f) ∗ (∃ f, yP c 256 256 f) ∗ (∃ f, yP c 512 256 f) ∗ (∃ f, yP c 768 256 f) ∗ g2P c f2 ∗ g3P c f3) : sProp 𝕄) := by
  unfold linear arrs scr
  iintro ⟨HO, ⟨⟨Hat, Hlz⟩, Htok⟩, Hcr, ⟨Ha, Hb, Hy⟩, ⟨Hx, Hw, Hs, Hr, Hv, Ho⟩, Hg2, Hg3⟩
  ihave Hat' := (Entails.of_eq (ats_eq c 0)) $$ Hat
  icases Hat' with ⟨H29, H30, H31, H32, H33, H34, H35, H36, H37, H38, H39, H40, H41, H42, H43, H44, H45⟩
  ihave Hlz' := (Entails.of_eq (lzs_eq c)) $$ Hlz
  icases Hlz' with ⟨H46, H47, H48, H49, H50, H51, H52, H53, H54, H55, H56, H57⟩
  ihave Htok' := (Entails.of_eq (payToks_eq c)) $$ Htok
  icases Htok' with ⟨H1, H2, H3, H4, H5, H6, H7, H8, H9, H10, H11, H12, H13, H14, H15, H16, H17, H18, H19⟩
  ihave Hcr' := (Entails.of_eq (creds_eq c)) $$ Hcr
  icases Hcr' with ⟨H20, H21, H22, H23, H24, H25, H26, H27, H28⟩
  ihave Ha' := (Entails.of_eq (cut_a m c)) $$ Ha
  icases Ha' with ⟨H58, H59, H60, H61⟩
  ihave Hb' := (Entails.of_eq (cut_b m c)) $$ Hb
  icases Hb' with ⟨H62, H63, H64, H65⟩
  ihave Hx' := (open_x c) $$ Hx
  icases Hx' with ⟨H66, H67, H68, H69⟩
  ihave Hw' := (open_w c) $$ Hw
  icases Hw' with ⟨H70, H71⟩
  ihave Hs' := (open_s c) $$ Hs
  icases Hs' with ⟨H72, H73, H74, H75⟩
  ihave Hr' := (open_r c) $$ Hr
  icases Hr' with ⟨H80, H81, H82⟩
  ihave Hv' := (open_v c) $$ Hv
  icases Hv' with ⟨H76, H77, H78, H79⟩
  ihave Ho' := (open_o c) $$ Ho
  icases Ho' with ⟨H83, H84⟩
  ihave Hy' := (open_y c) $$ [Hy]
  · iexists y; iexact Hy
  icases Hy' with ⟨H85, H86, H87, H88⟩
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  isplitl [H85]; · iexact H85
  isplitl [H86]; · iexact H86
  isplitl [H87]; · iexact H87
  isplitl [H88]; · iexact H88
  isplitl [Hg2]; · iexact Hg2
  iexact Hg3

set_option maxHeartbeats 1600000 in
/-- What the body leaves, whole again. -/
theorem leave (c : Dev nD) (f2 f3 : Vec F S1 .f32) :
    (iprop(ow c 0 ∗ atPos ER (barCell c) 1 ∅ 0 ∗ atPos ER (sCell c 0) 1 ∅ 0 ∗ atPos ER (sCell c 1) 1 ∅ 0 ∗ atPos ER (sCell c 2) 1 ∅ 0 ∗ atPos ER (sCell c 3) 1 ∅ 0 ∗ atPos ER (sCell c 4) 1 ∅ 0 ∗ atPos ER (sCell c 5) 1 ∅ 0 ∗ atPos ER (sCell c 6) 1 ∅ 0 ∗ atPos ER (sCell c 7) 1 ∅ 0 ∗ atPos ER (rCell c 0) 1 ∅ 0 ∗ atPos ER (rCell c 1) 1 ∅ 0 ∗ atPos ER (rCell c 2) 1 ∅ 0 ∗ atPos ER (rCell c 3) 1 ∅ 0 ∗ atPos ER (rCell c 4) 1 ∅ 0 ∗ atPos ER (rCell c 5) 1 ∅ 0 ∗ atPos ER (rCell c 6) 1 ∅ 0 ∗ atPos ER (rCell c 7) 1 ∅ 0 ∗ lz c 0 ∗ lz c 1 ∗ lz c 2 ∗ lz c 3 ∗ lz c 4 ∗ lz c 5 ∗ lz c 6 ∗ lz c 7 ∗ lz c 8 ∗ lz c 9 ∗ lz c 10 ∗ lz c 11 ∗ aP m c (0 + 1) ∗ aP m c (1 + 1) ∗ aP m c (2 + 1) ∗ aP m c (3 + 1) ∗ bP m c 1 ∗ bP m c 2 ∗ bP m c 3 ∗ bP m c 4 ∗ xP c 0 (xC m c) ∗ xP c 1 (xC m c) ∗ xP c 2 (xC m c) ∗ xP c 3 (xC m c) ∗ wP c 0 (wC m c 1) ∗ wP c 1 (wC m c 2) ∗ sP c 0 (sC m c) ∗ sP c 1 (sC m c) ∗ sP c 2 (sC m c) ∗ sP c 3 (sC m c) ∗ sP c 4 (sC m c) ∗ sP c 5 (sC m c) ∗ sP c 6 (sC m c) ∗ sP c 7 (sC m c) ∗ sQ c 3 (sC m c) ∗ vP c 0 (vC m c) ∗ vP c 1 (vC m c) ∗ vP c 2 (vC m c) ∗ vP c 3 (vC m c) ∗ rP c 0 (rC m c) ∗ rP c 1 (rC m c) ∗ rP c 2 (rC m c) ∗ rP c 3 (rC m c) ∗ rP c 4 (rC m c) ∗ rP c 5 (rC m c) ∗ rP c 6 (rC m c) ∗ rP c 7 (rC m c) ∗ oP c 0 256 (oD m c (k0_pay18 (rd2 f2) (rd3 f3))) ∗ oP c 256 256 (oD m c (k0_pay18 (rd2 f2) (rd3 f3))) ∗ oP c 512 256 (oD m c (k0_pay18 (rd2 f2) (rd3 f3))) ∗ oP c 768 256 (oD m c (k0_pay18 (rd2 f2) (rd3 f3))) ∗ yP c 0 256 (oD m c (k0_pay18 (rd2 f2) (rd3 f3))) ∗ yP c 256 256 (oD m c (k0_pay18 (rd2 f2) (rd3 f3))) ∗ yP c 512 256 (oD m c (k0_pay18 (rd2 f2) (rd3 f3))) ∗ yP c 768 256 (oD m c (k0_pay18 (rd2 f2) (rd3 f3))) ∗ g2P c f2 ∗ g3P c f3) : sProp 𝕄)
      ⊢ iprop(ow c 0 ∗ ats c 1 ∗ lzs c ∗ arrs m c (oD m c (k0_pay18 (rd2 f2) (rd3 f3))) ∗ scr c ∗ g2P c f2 ∗ g3P c f3) := by
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74⟩
  unfold arrs scr
  isplitl [H0]; · iexact H0
  isplitl [H1 H2 H3 H4 H5 H6 H7 H8 H9 H10 H11 H12 H13 H14 H15 H16 H17]
  · iapply (Entails.of_eq (ats_eq c 1).symm)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18 H19 H20 H21 H22 H23 H24 H25 H26 H27 H28 H29]
  · iapply (Entails.of_eq (lzs_eq c).symm)
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  isplitl [H30 H31 H32 H33 H34 H35 H36 H37 H69 H70 H71 H72]
  · isplitl [H30 H31 H32 H33]
    · iapply (Entails.of_eq (cut_a m c).symm)
      isplitl [H30]; · iexact H30
      isplitl [H31]; · iexact H31
      isplitl [H32]; · iexact H32
      iexact H33
    isplitl [H34 H35 H36 H37]
    · iapply (Entails.of_eq (cut_b m c).symm)
      isplitl [H34]; · iexact H34
      isplitl [H35]; · iexact H35
      isplitl [H36]; · iexact H36
      iexact H37
    iapply (Entails.of_eq (cut_y c _).symm)
    isplitl [H69]; · iexact H69
    isplitl [H70]; · iexact H70
    isplitl [H71]; · iexact H71
    iexact H72
  isplitl [H38 H39 H40 H41 H42 H43 H44 H45 H46 H47 H48 H49 H50 H51 H52 H57 H58 H59 H60 H61 H62 H63 H64 H53 H54 H55 H56 H65 H66 H67 H68]
  · isplitl [H38 H39 H40 H41]
    · iexists (xC m c); iapply (Entails.of_eq (cut_x c _).symm)
      isplitl [H38]; · iexact H38
      isplitl [H39]; · iexact H39
      isplitl [H40]; · iexact H40
      iexact H41
    isplitl [H42 H43]
    · iapply (shut_w c (wC m c 1) (wC m c 2))
      isplitl [H42]; · iexact H42
      iexact H43
    isplitl [H44 H45 H46 H47 H48 H49 H50 H51 H52]
    · iexists (sC m c); iapply (shut_s c _)
      isplitl [H44]; · iexact H44
      isplitl [H45]; · iexact H45
      isplitl [H46]; · iexact H46
      isplitl [H47]; · iexact H47
      isplitl [H48]; · iexact H48
      isplitl [H49]; · iexact H49
      isplitl [H50]; · iexact H50
      isplitl [H51]; · iexact H51
      iexact H52
    isplitl [H57 H58 H59 H60 H61 H62 H63 H64]
    · iexists (rC m c); iapply (shut_r c _)
      isplitl [H57]; · iexact H57
      isplitl [H58]; · iexact H58
      isplitl [H59]; · iexact H59
      isplitl [H60]; · iexact H60
      isplitl [H61]; · iexact H61
      isplitl [H62]; · iexact H62
      isplitl [H63]; · iexact H63
      iexact H64
    isplitl [H53 H54 H55 H56]
    · iexists (vC m c); iapply (Entails.of_eq (cut_v c _).symm)
      isplitl [H53]; · iexact H53
      isplitl [H54]; · iexact H54
      isplitl [H55]; · iexact H55
      iexact H56
    iexists (oD m c (k0_pay18 (rd2 f2) (rd3 f3))); iapply (Entails.of_eq (cut_ou c _).symm)
    isplitl [H65]; · iexact H65
    isplitl [H66]; · iexact H66
    isplitl [H67]; · iexact H67
    iexact H68
  isplitl [H73]; · iexact H73
  iexact H74

/-! ## The body obligation -/

variable (ρ : Dev nD → PrngReg)

abbrev t₀ : Fin cfg0.N := t0_0
theorem fin_N (t : Fin cfg0.N) : t = t₀ := fin_N0 t

/-- The region's proof data: both windows are inputs, left as staged. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => s2 m c
    | ⟨1, _⟩ => s3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m ρ 0 c).before (0 : Fin 2) t₀ d = s2 m c := by
  unfold Dat.before; rw [if_pos (fetch0_0 t₀)]; rfl
theorem before_1 (c : Dev nD) (d) : (dats m ρ 0 c).before (1 : Fin 2) t₀ d = s3 m c := by
  unfold Dat.before; rw [if_pos (fetch0_1 t₀)]; rfl

/-- What the obligation gives, -/
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- and what it asks for. -/
def bodyPost (c : Dev nD) : sProp 𝕄 :=
  iprop(Φ₁ m c ∗ (dats m ρ 0 c).owesAt () t₀.succ ∗ stg c cc0_stg0_0 (s2 m c) ∗ stg c cc0_stg1_0 (s3 m c))

theorem owesAt_in (c : Dev nD) : (dats m ρ 0 c).owesAt () t₀.castSucc ⊢ (ow c (O₀ c) : sProp 𝕄) := by
  unfold Dat.owesAt Pipeline.owesWithin ow
  rw [show (dats m ρ 0 c).owed t₀.castSucc = O₀ c from rfl]
  iintro ⟨%W, %hW, HO⟩
  iexists W; iexact HO
theorem owesAt_out (c : Dev nD) : (ow c 0 : sProp 𝕄) ⊢ (dats m ρ 0 c).owesAt () t₀.succ := by
  unfold Dat.owesAt Pipeline.owesWithin ow
  rw [show (dats m ρ 0 c).owed t₀.succ = 0 from rfl]
  iintro ⟨%W, HO⟩
  iexists W
  isplitr
  · ipureintro; exact fun _ _ => Or.inl trivial
  iexact HO

/-- The whole body, from the obligation's resources to what it asks for. -/
theorem sound_body (c : Dev nD) :
    bodyPre m ρ c ⊢ wpc c (cc0_body aM (Memref.isWhole_whole _) bM (Memref.isWhole_whole _) g2M (Memref.isWhole_whole _) g3M (Memref.isWhole_whole _)
      yM (Memref.isWhole_whole _) xM (Memref.isWhole_whole _) wM (Memref.isWhole_whole _) sM (Memref.isWhole_whole _) rM (Memref.isWhole_whole _)
      vM (Memref.isWhole_whole _) oM (Memref.isWhole_whole _) cc0_scratch6 cc0_scratch7 cc0_scratch8 cc0_scratch9 cc0_scratch10 cc0_scratch11 cc0_scratch12)
      (fun _ => bodyPost m ρ c) := by
  unfold bodyPre Φ₀ start
  iintro ⟨⟨⟨⟨%K, #He, Hl⟩, Hcr⟩, Harr, Hscr⟩, Ho, ⟨%d2, %f2, %h2, Hg2⟩, ⟨%d3, %f3, %h3, Hg3⟩⟩
  rw [before_0] at h2
  rw [before_1] at h3
  subst h2; subst h3
  ihave Ho' := (owesAt_in m ρ c) $$ Ho
  ihave HP := (enter m c (s2 m c) (s3 m c) _) $$ [Ho' Hl Hcr Harr Hscr Hg2 Hg3]
  · isplitl [Ho']; · iexact Ho'
    isplitl [Hl]; · iexact Hl
    isplitl [Hcr]; · iexact Hcr
    isplitl [Harr]; · iexact Harr
    isplitl [Hscr]; · iexact Hscr
    isplitl [Hg2]; · iexact Hg2
    iexact Hg3
  iapply (run_body m K c (s2 m c) (s3 m c)) $$ [HP]
  · isplitr; · iexact He
    iexact HP
  iintro HQ
  ihave HQ' := (leave m c (s2 m c) (s3 m c)) $$ HQ
  icases HQ' with ⟨Ho, Hat, Hlz, Harr, Hscr, Hg2, Hg3⟩
  unfold wpc
  imod (close_cells m K c) $$ [Hat] with Hk
  · isplitr; · iexact He
    iexact Hat
  iapply (wpc_ret c)
  unfold bodyPost Φ₁
  isplitl [Hk Hlz Harr Hscr]
  · isplitl [Hk Hlz]
    · isplitl [Hk] <;> iassumption
    isplitl [Harr]; · iexact Harr
    iexact Hscr
  isplitl [Ho]; · iapply (owesAt_out m ρ c); iexact Ho
  isplitl [Hg2]
  · iexists (s2 m c); isplitr; · ipureintro; rfl
    iexact Hg2
  · iexists (s3 m c); isplitr; · ipureintro; rfl
    iexact Hg3

/-- The body obligation of device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.KProof

end
-- ==== Proof.Run.lean ====
/-
# The run

Every fair execution of the four devices' kernel terminates; each device then holds its computed rows in its result
array, its arguments as launched, and every semaphore at zero. Over any float values.
-/
module

public import proofs.«01_k».proof.Proof.Region
public import Idealize.ShloMosaic.Lib.Pipeline.CollectiveSegs

@[expose] public section

set_option maxRecDepth 16384

noncomputable section

namespace Cert.KProof

open Idealize.ShloMosaic.Pipeline (Dat Cfg Window BodyObligation cellOf)
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- What a device starts from: its deal, its credit, and its arrays as launched. -/
def startX (c : Dev nD) : sProp 𝕄 := iprop(start m c ∗ arrs m c (m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  unfold G' records
  iintro ⟨⟨Ha, Hb, Hy⟩, Hlev, Hcr, -, ⟨%K, ⟨HI, HR⟩, Hl⟩⟩
  ihave Hc := (creds_intro (F := F) c) $$ Hcr
  imodintro
  unfold startX start arrs env
  isplitl
  · isplitr [Ha Hb Hy]
    · isplitr [Hc]
      · iexists K
        isplitr [Hl]
        · isplitl [HI]; · iexact HI
          isplitl [HR]; · iexact HR
          iexact Hlev
        · iexact Hl
      · iexact Hc
    · isplitl [Ha]; · iexact Ha
      isplitl [Hb]; · iexact Hb
      iexact Hy
  · iempintro

theorem phi0_intro (c : Dev nD) :
    iprop(startX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ startX scr
  iintro ⟨⟨Hs, Ha⟩, -, ⟨H0, H1, H2, H3, H4, H5⟩⟩
  isplitl [Hs]; · iexact Hs
  isplitl [Ha]; · iexact Ha
  isplitl [H0]; · iexact H0
  isplitl [H1]; · iexact H1
  isplitl [H2]; · iexact H2
  isplitl [H3]; · iexact H3
  isplitl [H4]; · iexact H4
  iexact H5

theorem phi1_exit (c : Dev nD) :
    (dats m ρ 0 c).Φ (Fin.last cfg0.N)
      ⊢ iprop((unscopedSems0 c ∗ arrs m c (out m c)) ∗ Pipeline.ownSems0 osem c ∗ Pipeline.scopedRest cfg0.spec c) := by
  rw [show (dats m ρ 0 c).Φ (Fin.last cfg0.N) = Φ₁ m c from rfl, scopedRest0_eq]
  unfold Φ₁ scr
  iintro ⟨Hk, Ha, ⟨H0, H1, H2, H3, H4, H5⟩⟩
  ihave Hs := (sems0_out (F := F) c) $$ Hk
  icases Hs with ⟨Ho, Hu⟩
  isplitl [Hu Ha]
  · isplitl [Hu] <;> iassumption
  isplitl [Ho]; · iexact Ho
  isplitl [H0]; · iexact H0
  isplitl [H1]; · iexact H1
  isplitl [H2]; · iexact H2
  isplitl [H3]; · iexact H3
  isplitl [H4]; · iexact H4
  iexact H5

theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma ((cfg0.win w).sem s)) () ≤ 0 := by
      change lv ((0 : Dev nD).tc, .dma ((cfg0.win w).sem s)) () ≤ 0
      fin_cases w <;> fin_cases s <;> decide
    rcases t with ⟨_ | _, ht⟩
    · exact mayWait c _ 0 h _ (above_O₀ c)
    · exact mayWait c _ 0 h _ (above_zero 0)

/-- What holds of device `c` at the end. -/
def Final (c : Dev nD) (s : MemSt nD τ sig (Elt F)) : Prop :=
  s.mem ((c.tc : Thread nD τ).loc main_v1) = out m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- From any memory with zero counters every weakly fair execution of the four devices terminates, each device's result
    array at the computed rows, its arguments as they were and every semaphore at zero. -/
theorem run_main : θ_run defs (onTc (τ := τ) (main (F := F))) (s₀ m ρ) (fun r => (∀ c : Dev nD, Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_u₀ _ _) $$ Hu
      icases H with ⟨HP, HX⟩
      imod (fund_mesh m) $$ HX with HG
      imodintro
      isplitl [HP] <;> iassumption)
    (hglob := glob m)
    (hA := fun _ _ => rfl) (hpf := fun _ k => k.elim0)
    (X := startX m) (Y := fun c => iprop(unscopedSems0 c ∗ arrs m c (out m c))) (Z := fun _ => iprop(emp))
    (hX := start_intro m ρ) (hin := phi0_intro m ρ) (hout := phi1_exit m ρ)
    (QY := fun c s => (s.mem ((c.tc : Thread nD τ).loc main_v1) = out m c
        ∧ s.mem ((c.tc : Thread nD τ).loc main_arg0) = m ((c.tc : Thread nD τ).loc main_arg0)
        ∧ s.mem ((c.tc : Thread nD τ).loc main_arg1) = m ((c.tc : Thread nD τ).loc main_arg1))
      ∧ ∀ sm : SemLoc sig, sm.isScoped .tc = false → s.sem ((c.tc : Thread nD τ), sm) = 0)
    (hY := fun c s' => by
      unfold arrs
      iintro ⟨⟨Hu, Ha, Hb, Hy⟩, -, HSI⟩
      icombine HSI Ha gives %ha
      icombine HSI Hb gives %hb
      icombine HSI Hy gives %hy
      imod (Pipeline.unscopedSems0_read (X := unscopedSems0 c) (c := c) fupd_intro s') $$ [Hu HSI] with ⟨%hz, HSI⟩
      · isplitl [Hu] <;> iassumption
      imodintro
      isplitr
      · ipureintro
        exact ⟨⟨Buf.eq_of_forall_mem_univ hy, Buf.eq_of_forall_mem_univ ha, Buf.eq_of_forall_mem_univ hb⟩, hz⟩
      iexact HSI)
    (hQ := fun _ h hs => ⟨fun c => ⟨(h c).2.2.1.1, (h c).2.2.1.2.1, (h c).2.2.1.2.2,
        ((h c).1 (0 : Fin 2)).trans ((dats m ρ 0 c).arrAt_in (0 : Fin 2) rfl _),
        ((h c).1 (1 : Fin 2)).trans ((dats m ρ 0 c).arrAt_in (1 : Fin 2) rfl _)⟩,
      sem_eq_zero hs fun c => (h c).2.2.2⟩)

end Cert.KProof

end
-- ==== Proof.RefRun.lean ====
/-
# The reference's run

The reference is one product of whole arrays, scaled and passed through the activation: its result array ends holding
that value of its arguments, which end as launched.
-/
module

public import proofs.«01_k».proof.Proof.Gen.ReferenceIdeal.Value
public import proofs.«01_k».proof.Proof.Gen.ReferenceIdeal.Points

@[expose] public section

set_option maxRecDepth 16384

noncomputable section

namespace Cert.KRef

open Cert.ReferenceIdeal Cert.ReferenceIdeal.Gen
open Idealize.ShloMosaic
open Idealize.ShloMosaic.TcCoe
open Idealize.SL.Sem
open Idealize.ShloMosaic.Pipeline (Dat)

variable {F : FTy → Type} [FloatOps F] [Named F]
variable (m : (ℓ : Loc nD τ sig) → Buf (Elt F) ℓ) (ρ : Dev nD → PrngReg)

theorem off2 : (![0, 0] : Fin 2 → ℕ) = fun _ => 0 := funext fun a => by fin_cases a <;> rfl

/-- The one element of a scalar's block. -/
abbrev one : S1.Idx := Shape.Idx.first (numel1_S1.symm ▸ Nat.one_pos)

/-- A vector of one element has one index. -/
theorem idx_one (i j : S1.Idx) : i = j := by
  funext a; apply Fin.ext
  match a with
  | ⟨0, _⟩ =>
    have hi : (i 0).val < 1 := (i 0).isLt
    have hj : (j 0).val < 1 := (j 0).isLt
    exact (Nat.lt_one_iff.mp hi).trans (Nat.lt_one_iff.mp hj).symm

/-- What the body stores, of the staged arguments: the whole computation applied to them. -/
theorem out_eq (c : Dev nD) (a0 : Memref sig .tc .vmem S4096x4096 .f32) (h0 : a0.IsWhole) (a1 : Memref sig .tc .vmem S4096x2048 .f32)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole)
    (x0 : Vec F S4096x4096 .f32) (x1 : Vec F S4096x2048 .f32) (x2 x3 : Vec F S1 .f32) :
    out0_A_4 c a0 h0 a1 h1 a2 h2 a3 h3 a4 h4 x0 x1 x2 x3 = k0_pay1 x0 x1 (x2 one) (x3 one) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero off2]
  simp only [View.readAt_eq_ld, h0.read_unread, h1.read_unread, h2.read_unread, h3.read_unread,
    View.ld_unit_zero (S := S4096x4096) off2, View.ld_unit_zero (S := S4096x2048) off2]
  exact congrArg₂ (k0_pay1 x0 x1) (congrArg x2 (idx_one _ _)) (congrArg x3 (idx_one _ _))

/-- The arguments, by name. -/
abbrev ax (c : Dev nD) : Vec F S4096x4096 .f32 := m ((c : Thread nD τ).loc main_arg0)
abbrev aw (c : Dev nD) : Vec F S4096x2048 .f32 := m ((c : Thread nD τ).loc main_arg1)
abbrev au (c : Dev nD) : Vec F S1 .f32 := m ((c : Thread nD τ).loc main_arg2)
abbrev av (c : Dev nD) : Vec F S1 .f32 := m ((c : Thread nD τ).loc main_arg3)

/-- Each argument is staged whole. -/
theorem staged0 (c : Dev nD) (t : Fin cfg0.N) : iblk m c 0 t = ax m c := by
  have hz : (fun a => win0_0.index t a * main_arg0.ty.shape.size a) = fun _ => 0 := by
    revert t; exact (by decide +kernel : ∀ t : Fin grid0.N, (fun a => win0_0.index t a * main_arg0.ty.shape.size a) = fun _ => 0)
  exact Memref.read_access_unit_zero (Elt F) main_arg0 hz (fun a => by rw [congrFun hz a]; simp) (ax m c)
theorem staged1 (c : Dev nD) (t : Fin cfg0.N) : iblk m c 1 t = aw m c := by
  have hz : (fun a => win0_1.index t a * main_arg1.ty.shape.size a) = fun _ => 0 := by
    revert t; exact (by decide +kernel : ∀ t : Fin grid0.N, (fun a => win0_1.index t a * main_arg1.ty.shape.size a) = fun _ => 0)
  exact Memref.read_access_unit_zero (Elt F) main_arg1 hz (fun a => by rw [congrFun hz a]; simp) (aw m c)
theorem staged2 (c : Dev nD) (t : Fin cfg0.N) : iblk m c 2 t = au m c := by
  have hz : (fun a => win0_2.index t a * main_arg2.ty.shape.size a) = fun _ => 0 := by
    revert t; exact (by decide +kernel : ∀ t : Fin grid0.N, (fun a => win0_2.index t a * main_arg2.ty.shape.size a) = fun _ => 0)
  exact Memref.read_access_unit_zero (Elt F) main_arg2 hz (fun a => by rw [congrFun hz a]; simp) (au m c)
theorem staged3 (c : Dev nD) (t : Fin cfg0.N) : iblk m c 3 t = av m c := by
  have hz : (fun a => win0_3.index t a * main_arg3.ty.shape.size a) = fun _ => 0 := by
    revert t; exact (by decide +kernel : ∀ t : Fin grid0.N, (fun a => win0_3.index t a * main_arg3.ty.shape.size a) = fun _ => 0)
  exact Memref.read_access_unit_zero (Elt F) main_arg3 hz (fun a => by rw [congrFun hz a]; simp) (av m c)

/-- The result: the computation of the arguments. -/
abbrev result (c : Dev nD) : Vec F S4096x2048 .f32 := k0_pay1 (ax m c) (aw m c) (au m c one) (av m c one)

/-- The one write-back writes the result, whole. -/
theorem flushed_eq (c : Dev nD) (t : Fin cfg0.N) (hf : (cfg0.win 4).flush t = true) :
    (dats m 0 c).flushed 4 t = ((cfg0.win 4).blk t).view.read (Elt F) (result m c) := by
  rw [Cert.ReferenceIdeal.Value.flushed4_A, out_eq, staged0, staged1, staged2, staged3]
  clear hf
  have hz : (fun a => win0_4.index t a * main_v0.ty.shape.size a) = fun _ => 0 := by
    revert t; exact (by decide +kernel : ∀ t : Fin grid0.N, (fun a => win0_4.index t a * main_v0.ty.shape.size a) = fun _ => 0)
  exact (Memref.read_access_unit_zero (Elt F) main_v0 hz (fun a => by rw [congrFun hz a]; simp) (result m c)).symm

/-- The result array after the run. -/
theorem final (c : Dev nD) : (dats m 0 c).arrAt 4 cfg0.N = result m c :=
  (dats m 0 c).arrAt_eq_of_cover 4 (result m c) (flushed_eq m c) fun i =>
    ⟨t0_0, flush0_4 t0_0, by
      show i ∈ ((View.whole main_v0).slice (win0_4.rect t0_0)).set
      rw [View.set_slice_whole, Rect.mem_set_unit]
      intro a
      have h0 : (i 0 : ℕ) < 4096 := (i 0).isLt
      have h1 : (i 1 : ℕ) < 2048 := (i 1).isLt
      match a with
      | ⟨0, _⟩ =>
        show win0_4.index t0_0 0 * win0_4.size 0 ≤ (i 0 : ℕ) ∧ (i 0 : ℕ) < win0_4.index t0_0 0 * win0_4.size 0 + win0_4.xsize (grid0.coords t0_0) 0
        rw [show win0_4.index t0_0 0 * win0_4.size 0 = 0 from by decide +kernel, show win0_4.xsize (grid0.coords t0_0) 0 = 4096 from by decide +kernel]; omega
      | ⟨1, _⟩ =>
        show win0_4.index t0_0 1 * win0_4.size 1 ≤ (i 1 : ℕ) ∧ (i 1 : ℕ) < win0_4.index t0_0 1 * win0_4.size 1 + win0_4.xsize (grid0.coords t0_0) 1
        rw [show win0_4.index t0_0 1 * win0_4.size 1 = 0 from by decide +kernel, show win0_4.xsize (grid0.coords t0_0) 1 = 2048 from by decide +kernel]; omega⟩

/-- Every fair execution of the reference ends with its result in place and its arguments as launched. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.ReferenceIdeal.Value.run_blocks m ρ)

end Cert.KRef

end
-- ==== Proof.Blocks.lean ====
/-
# The kernel's result as sums over the four blocks of the contracted axis

Over exact values a device's result at a row and a column is the activation of the scaled sum of four block products:
one per device `d`, of the rows the device keeps of `d`'s columns of `x` with block `d` of the rows of `w`.
-/
module

public import proofs.«01_k».proof.Proof.Reads
public import Idealize.ShloMosaic.Lib.MatmulPlain

@[expose] public section

set_option maxRecDepth 16384

noncomputable section

namespace Cert.KProof

open Cert.KernelIdeal Cert.KernelIdeal.Gen
open Idealize.ShloMosaic
open Idealize.ShloMosaic.TcCoe
open Idealize.ShloMosaic.ValueIdx (ix2 ix3 eq_ix2 eq_ix3 reshapeEquiv_ix2_1ab)
open scoped BigOperators

variable (m : (ℓ : Loc nD τ sig) → Buf (Elt Ideal) ℓ)

/-! ## One product -/

/-- A product of two blocks with a leading unit axis, onto zero, read at a row and a column. -/
theorem prod_at {M : ℕ} (A : FVec Ideal ⟨3, ![1, M, 1024]⟩ .fp8e5m2) (B : FVec Ideal S1x1024x2048 .fp8e5m2) (hA) (hB) (r : Fin M) (n : Fin 2048) :
    matmul (DotDims.plain M 1024 2048) none (shapeCast ⟨2, ![M, 1024]⟩ A hA) (shapeCast S1024x2048 B hB) (constant ⟨2, ![M, 2048]⟩ .f32 0x00000000#32) (ix2 r n)
      = ∑ k : Fin 1024, A (ix3 0 r k) * B (ix3 0 k n) := by
  show FloatOps.matmul _ _ _ _ _ _ = _
  rw [Ideal.matmul_plain_apply]
  show Ideal.ofBits .f32 0x00000000#32 + _ = _
  rw [Ideal.ofBits_zero_f32, zero_add]
  refine Finset.sum_congr rfl fun k _ => ?_
  show A (Shape.reshapeEquiv _ (ix2 r k)) * B (Shape.reshapeEquiv _ (ix2 k n)) = _
  erw [reshapeEquiv_ix2_1ab _ r k, reshapeEquiv_ix2_1ab _ k n]
  rfl

/-- Device `c`'s product with device `d`'s block: rows `1024 c …` of `d`'s `x` with rows `1024 d …` of `w`. -/
def part (c d : Dev nD) : Vec Ideal S1024x2048 .f32 := fun i =>
  ∑ k : Fin 1024, (xv m d (ix2 ⟨1024 * (c.val % 4) + (i 0).val, blk_lt _ _ (i 0).isLt⟩ k) : EReal)
    * wv m c (ix2 ⟨1024 * (d.val % 4) + k.val, blk_lt _ _ k.isLt⟩ (i 1))

/-- The block product at rows `o + r`, from what the receive buffer and the weights hold. -/
theorem part_recv {M : ℕ} (c : Dev nD) (j o : ℕ) (hj : j < 3) (hM : o + M ≤ 1024) (inb) (inb') (r : Fin M) (n : Fin 2048) (i : S1024x2048.Idx)
    (h0 : (i 0).val = o + r.val) (h1 : (i 1).val = n.val) :
    (∑ k : Fin 1024, (rM.view.readAt (Elt Ideal) (Rect.unit (s := S3x1024x1024) ![j, o, 0] (⟨3, ![1, M, 1024]⟩ : Shape).size inb).toLoadRect (rC m c) (ix3 0 r k) : EReal)
        * vM.view.readAt (Elt Ideal) (Rect.unit (s := S4x1024x2048) ![j + 1, 0, 0] S1x1024x2048.size inb').toLoadRect (vC m c) (ix3 0 k n))
      = part m c (pl c (3 - j)) i := by
  unfold part
  refine Finset.sum_congr rfl fun k _ => ?_
  have hc := dev_lt c
  refine congrArg₂ (· * ·) ?_ ?_
  · show xv m (pl c (3 - (j + 1 * 0))) (ix2 ⟨1024 * (((pl c (3 - (j + 1 * 0))).val + (j + 1 * 0) + 1) % 4) + (o + 1 * r.val), _⟩ ⟨0 + 1 * k.val, _⟩) = _
    refine at2 (xv m (pl c (3 - j))) ?_ ?_
    · show 1024 * (((pl c (3 - (j + 1 * 0))).val + (j + 1 * 0) + 1) % 4) + (o + 1 * r.val) = 1024 * (c.val % 4) + (i 0).val
      rw [pl_val, h0]; omega
    · show 0 + 1 * k.val = k.val
      omega
  · refine at2 (wv m c) ?_ ?_
    · show 1024 * ((c.val + (4 - (j + 1 + 1 * 0))) % 4) + (0 + 1 * k.val) = 1024 * ((pl c (3 - j)).val % 4) + k.val
      rw [pl_val]; omega
    · show 0 + 1 * n.val = (i 1).val
      omega

/-- The device's own block product. -/
theorem part_own (c : Dev nD) (i : S1024x2048.Idx) : (∑ k : Fin 1024, (ldS3 m c (ix3 0 (i 0) k) : EReal) * ldV0 m c (ix3 0 k (i 1))) = part m c c i := by
  unfold part
  refine Finset.sum_congr rfl fun k _ => ?_
  have hc := dev_lt c
  refine congrArg₂ (· * ·) ?_ ?_
  · refine at2 (xv m c) ?_ ?_
    · show 1024 * ((c.val + (3 + 1 * 0) + 1) % 4) + (0 + 1 * (i 0).val) = 1024 * (c.val % 4) + (i 0).val
      omega
    · show 0 + 1 * k.val = k.val
      omega
  · refine at2 (wv m c) ?_ ?_
    · show 1024 * ((c.val + (4 - (0 + 1 * 0))) % 4) + (0 + 1 * k.val) = 1024 * (c.val % 4) + k.val
      omega
    · show 0 + 1 * (i 1).val = (i 1).val
      omega

/-! ## The accumulator -/

/-- Two halves that agree with a vector make it. -/
theorem two_all {α : Type} {A B : S512x2048.Idx → α} {g : S1024x2048.Idx → α}
    (hA : ∀ (r : Fin 512) (n : Fin 2048) (i : S1024x2048.Idx), (i 0).val = 0 + r.val → (i 1).val = n.val → A (ix2 r n) = g i)
    (hB : ∀ (r : Fin 512) (n : Fin 2048) (i : S1024x2048.Idx), (i 0).val = 512 + r.val → (i 1).val = n.val → B (ix2 r n) = g i) : two A B = g := by
  funext i
  have hi := lt2_0 i
  unfold two; split
  · exact hA _ _ _ (Nat.zero_add _).symm rfl
  · exact hB _ _ _ (show (i 0).val = 512 + ((i 0).val - 512) by omega) rfl

/-- Four quarters that agree with a vector make it. -/
theorem four_all {α : Type} {A B C D : S256x2048.Idx → α} {g : S1024x2048.Idx → α}
    (hA : ∀ (r : Fin 256) (n : Fin 2048) (i : S1024x2048.Idx), (i 0).val = 0 + r.val → (i 1).val = n.val → A (ix2 r n) = g i)
    (hB : ∀ (r : Fin 256) (n : Fin 2048) (i : S1024x2048.Idx), (i 0).val = 256 + r.val → (i 1).val = n.val → B (ix2 r n) = g i)
    (hC : ∀ (r : Fin 256) (n : Fin 2048) (i : S1024x2048.Idx), (i 0).val = 512 + r.val → (i 1).val = n.val → C (ix2 r n) = g i)
    (hD : ∀ (r : Fin 256) (n : Fin 2048) (i : S1024x2048.Idx), (i 0).val = 768 + r.val → (i 1).val = n.val → D (ix2 r n) = g i) : four A B C D = g := by
  funext i
  have hi := lt2_0 i
  unfold four; split
  · exact hA _ _ _ (Nat.zero_add _).symm rfl
  split
  · exact hB _ _ _ (show (i 0).val = 256 + ((i 0).val - 256) by omega) rfl
  split
  · exact hC _ _ _ (show (i 0).val = 512 + ((i 0).val - 512) by omega) rfl
  · exact hD _ _ _ (show (i 0).val = 768 + ((i 0).val - 768) by omega) rfl

/-- After receive slot 0: the block three places on. -/
theorem oA_eq (c : Dev nD) : oA m c = part m c (pl c 3) := by
  refine two_all (fun r n i h0 h1 => ?_) fun r n i h0 h1 => ?_
  · unfold k0_pay7 k0_pay6; rw [shapeCast_self]
    exact (prod_at _ _ _ _ r n).trans (part_recv m c 0 0 (by decide) (by decide) _ _ r n i h0 h1)
  · unfold k0_pay8; rw [shapeCast_self]
    exact (prod_at _ _ _ _ r n).trans (part_recv m c 0 512 (by decide) (by decide) _ _ r n i h0 h1)

/-- Then the device's own, -/
theorem oB_eq (c : Dev nD) (i : S1024x2048.Idx) : oB m c i = (part m c (pl c 3) i + part m c c i : EReal) := by
  unfold oB k0_pay11; rw [shapeCast_self, ldO_eq, oA_eq, eq_ix2 i]
  exact congrArg (part m c (pl c 3) (ix2 (i 0) (i 1)) + · : EReal → EReal) ((prod_at _ _ _ _ (i 0) (i 1)).trans (part_own m c (ix2 (i 0) (i 1))))

/-- then the next device's, -/
theorem oC_eq (c : Dev nD) : oC m c = fun i => (part m c (pl c 3) i + part m c c i + part m c (pl c 1) i : EReal) := by
  refine two_all (fun r n i h0 h1 => ?_) fun r n i h0 h1 => ?_
  · unfold k0_pay13; rw [shapeCast_self]
    refine congrArg₂ (· + · : EReal → EReal → EReal) ?_ ((prod_at _ _ _ _ r n).trans (part_recv m c 2 0 (by decide) (by decide) _ _ r n i h0 h1))
    exact (at2 (oB m c) (show 0 + 1 * r.val = _ by omega) (show 0 + 1 * n.val = _ by omega)).trans (oB_eq m c i)
  · unfold k0_pay16 k0_pay14 k0_pay15; rw [shapeCast_self]
    refine congrArg₂ (· + · : EReal → EReal → EReal) ?_ ((prod_at _ _ _ _ r n).trans (part_recv m c 2 512 (by decide) (by decide) _ _ r n i h0 h1))
    exact (at2 (oB m c) (show 512 + 1 * r.val = _ by omega) (show 0 + 1 * n.val = _ by omega)).trans (oB_eq m c i)

/-- The activation, of a sum and a scale. -/
def act (s y : EReal) : EReal := y * s * Ideal.logistic (y * s)

/-- The four block products together. -/
def sum4 (c : Dev nD) (i : S1024x2048.Idx) : EReal := part m c (pl c 3) i + part m c c i + part m c (pl c 1) i + part m c (pl c 2) i

/-- and last, the remaining device's, scaled and passed through the activation: the result. -/
theorem oD_eq (c : Dev nD) (s : Ideal .f32) : oD m c s = fun i => act s (sum4 m c i) := by
  have step : ∀ (q : ℕ) (y u p : EReal) (i : S1024x2048.Idx), y = oC m c i → u = p → p = part m c (pl c 2) i →
      act s (y + u) = act s (sum4 m c i) := by
    rintro _ y u p i rfl rfl rfl
    rw [oC_eq]; rfl
  unfold oD
  refine four_all (fun r n i h0 h1 => ?_) (fun r n i h0 h1 => ?_) (fun r n i h0 h1 => ?_) fun r n i h0 h1 => ?_
  · unfold k0_pay19; rw [shapeCast_self]
    exact step 0 _ _ _ i (at2 (oC m c) (show 0 + 1 * r.val = _ by omega) (show 0 + 1 * n.val = _ by omega)) (prod_at _ _ _ _ r n) (part_recv m c 1 0 (by decide) (by decide) _ _ r n i h0 h1)
  · unfold k0_pay20; rw [shapeCast_self]
    exact step 1 _ _ _ i (at2 (oC m c) (show 256 + 1 * r.val = _ by omega) (show 0 + 1 * n.val = _ by omega)) (prod_at _ _ _ _ r n) (part_recv m c 1 256 (by decide) (by decide) _ _ r n i h0 h1)
  · unfold k0_pay22 k0_pay21; rw [shapeCast_self]
    exact step 2 _ _ _ i (at2 (oC m c) (show 512 + 1 * r.val = _ by omega) (show 0 + 1 * n.val = _ by omega)) (prod_at _ _ _ _ r n) (part_recv m c 1 512 (by decide) (by decide) _ _ r n i h0 h1)
  · unfold k0_pay24 k0_pay23; rw [shapeCast_self]
    exact step 3 _ _ _ i (at2 (oC m c) (show 768 + 1 * r.val = _ by omega) (show 0 + 1 * n.val = _ by omega)) (prod_at _ _ _ _ r n) (part_recv m c 1 768 (by decide) (by decide) _ _ r n i h0 h1)

/-- The order of the four does not matter. -/
theorem sum4_eq (c : Dev nD) (i : S1024x2048.Idx) : sum4 m c i = ∑ d : Dev nD, (part m c d i : EReal) := by
  have key : ∀ f : Dev nD → EReal, f (pl c 3) + f c + f (pl c 1) + f (pl c 2) = ∑ d : Dev nD, f d := by
    intro f
    change _ = ∑ d : Fin 4, f d
    rw [Fin.sum_univ_four]
    revert c
    change ∀ c : Fin 4, _
    intro c
    fin_cases c
    · change f 3 + f 0 + f 1 + f 2 = _; abel
    · change f 0 + f 1 + f 2 + f 3 = _; abel
    · change f 1 + f 2 + f 3 + f 0 = _; abel
    · change f 2 + f 3 + f 0 + f 1 = _; abel
  exact key fun d => part m c d i

end Cert.KProof

end
-- ==== Proof.Value.lean ====
/-
# The kernel computes the reference

Over exact values: from arguments that are the devices' parts of the whole arrays, what a device writes is its block of
rows of the reference's result. The contracted axis of the whole product is cut in the four devices' blocks, and
the reference's quotient by one plus an exponential is the kernel's product with the logistic function.
-/
module

public import proofs.«01_k».proof.Proof.Region
public import proofs.«01_k».proof.Proof.Blocks
public import proofs.«01_k».proof.Proof.RefRun
public import Idealize.ShloMosaic.Lib.Layout
public import Idealize.ShloMosaic.Lib.IdealHost
public import Idealize.ShloMosaic.Lib.MatmulPlain

@[expose] public section

set_option maxRecDepth 16384

noncomputable section

namespace Cert.KProof

open Idealize.ShloMosaic
open Idealize.ShloMosaic.TcCoe
open Idealize.ShloMosaic.ValueIdx (ix2 ix3 eq_ix2 eq_ix3)
open scoped BigOperators

/-! ## The activation -/

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- A value divided by one plus the exponential of its negation is the value times its logistic. -/
theorem quot_eq (y : EReal) : Ideal.div y (1 + Ideal.exp (-y)) = y * Ideal.logistic y := by
  have h1 : (1 : EReal) ≤ 1 + Ideal.exp (-y) := le_add_of_nonneg_right (exp_nonneg _)
  have h : (1 + Ideal.exp (-y) : EReal) ≠ 0 := fun e => absurd (e ▸ h1) (not_le.mpr zero_lt_one)
  unfold Ideal.logistic Ideal.div
  rw [if_neg h, if_neg h, one_mul]

/-- The reference's bounds on the exponent, over exact values. -/
theorem lo_eq : Named.named (F := Ideal) Cert.ReferenceIdeal.κ "lo" (φ := .f32) 0xC2700000#32 = (⊥ : EReal) :=
  IdealRules.named_const.ideal_named_scalar _ _ _ _ rfl
theorem hi_eq : Named.named (F := Ideal) Cert.ReferenceIdeal.κ "hi" (φ := .f32) 0x42700000#32 = (⊤ : EReal) :=
  IdealRules.named_const.ideal_named_scalar _ _ _ _ rfl

/-! ## The reference at an element -/

/-- The reference's result at a row and a column: the activation of the whole sum and the two scales' product. -/
theorem ref_at (x : Vec Ideal Cert.ReferenceIdeal.S4096x4096 .f32) (w : Vec Ideal Cert.ReferenceIdeal.S4096x2048 .f32) (u v : Ideal .f32)
    (r : Fin 4096) (n : Fin 2048) :
    Cert.ReferenceIdeal.Gen.k0_pay1 x w u v (ix2 r n) = act (u * v : EReal) (∑ k : Fin 4096, (x (ix2 r k) : EReal) * w (ix2 k n)) := by
  have hm : FloatOps.matmul (F := Ideal) (φ₁ := .f32) (φ₂ := .f32) (DotDims.plain 4096 4096 2048) none x w
      (constant ⟨2, ![4096, 2048]⟩ .f32 0x00000000#32) (ix2 r n) = ∑ k : Fin 4096, (x (ix2 r k) : EReal) * w (ix2 k n) := by
    rw [Ideal.matmul_plain_apply]
    show Ideal.ofBits .f32 0x00000000#32 + _ = _
    rw [Ideal.ofBits_zero_f32, zero_add]
  generalize (∑ k : Fin 4096, (x (ix2 r k) : EReal) * w (ix2 k n)) = S at hm
  show Ideal.div ((FloatOps.matmul (F := Ideal) (φ₁ := .f32) (φ₂ := .f32) (DotDims.plain 4096 4096 2048) none x w (constant ⟨2, ![4096, 2048]⟩ .f32 0x00000000#32) (ix2 r n) : EReal) * (u * v))
    (Ideal.ofBits .f32 0x3F800000#32 + Ideal.exp (Ideal.ofBits .f32 0x00000000#32
      - min (Named.named (F := Ideal) Cert.ReferenceIdeal.κ "hi" (φ := .f32) 0x42700000#32 : EReal)
        (max (Named.named (F := Ideal) Cert.ReferenceIdeal.κ "lo" (φ := .f32) 0xC2700000#32 : EReal)
          ((FloatOps.matmul (F := Ideal) (φ₁ := .f32) (φ₂ := .f32) (DotDims.plain 4096 4096 2048) none x w (constant ⟨2, ![4096, 2048]⟩ .f32 0x00000000#32) (ix2 r n) : EReal) * (u * v)))))
    = act (u * v) S
  rw [hm, lo_eq, hi_eq, Ideal.ofBits_zero_f32, Ideal.ofBits_one_f32, max_eq_right bot_le, min_eq_right le_top, sub_eq_add_neg, zero_add, quot_eq]
  rfl

/-- A sum over 4096 positions, block by block. -/
theorem sum_blocks (f : Fin 4096 → EReal) : ∑ k, f k = ∑ d : Fin 4, ∑ k : Fin 1024, f ⟨1024 * (d.val % 4) + k.val, blk_lt _ _ k.isLt⟩ := by
  rw [← Fintype.sum_prod_type', ← Equiv.sum_comp (finProdFinEquiv (m := 4) (n := 1024)) f]
  refine Finset.sum_congr rfl fun p _ => congrArg f (Fin.ext ?_)
  have := p.1.isLt
  show p.2.val + 1024 * p.1.val = 1024 * (p.1.val % 4) + p.2.val
  omega

/-! ## The two compared -/

section

variable (m : (ℓ : Loc Cert.KernelIdeal.nD Cert.KernelIdeal.τ Cert.KernelIdeal.sig) → Buf (Elt Ideal) ℓ)
variable (X : Vec Ideal Cert.ReferenceIdeal.S4096x4096 .f32) (W : Vec Ideal Cert.ReferenceIdeal.S4096x2048 .f32)

/-- A device's block product, of the whole arrays. -/
theorem part_whole (hX : ∀ c : Dev Cert.KernelIdeal.nD, xv m c = Layout.block ⟨2, ![4096, 1024]⟩ ⟨2, ![4096, 4096]⟩ 1 4 c X)
    (hW : ∀ c : Dev Cert.KernelIdeal.nD, wv m c = W) (c d : Dev Cert.KernelIdeal.nD) (i : Cert.KernelIdeal.S1024x2048.Idx) (r : Fin 4096) (hr : r.val = 1024 * c.val + (i 0).val) :
    (part m c d i : EReal) = ∑ k : Fin 1024, (X (ix2 r ⟨1024 * (d.val % 4) + k.val, blk_lt _ _ k.isLt⟩) : EReal)
      * W (ix2 ⟨1024 * (d.val % 4) + k.val, blk_lt _ _ k.isLt⟩ (i 1)) := by
  unfold part
  have hc := dev_lt c; have hd := dev_lt d
  refine Finset.sum_congr rfl fun k _ => ?_
  rw [hX, hW, Layout.block_apply]
  refine congrArg (· * _ : EReal → EReal) (at2 X ?_ ?_)
  · rw [Layout.Tiles.idx_val]
    show 1024 * (c.val % 4) + (i 0).val = r.val
    omega
  · rw [Layout.Tiles.idx_val]
    show d.val * 1024 + k.val = 1024 * (d.val % 4) + k.val
    omega

/-- What a device writes is its rows of the reference's result. -/
theorem out_whole (hX : ∀ c : Dev Cert.KernelIdeal.nD, xv m c = Layout.block ⟨2, ![4096, 1024]⟩ ⟨2, ![4096, 4096]⟩ 1 4 c X)
    (hW : ∀ c : Dev Cert.KernelIdeal.nD, wv m c = W) (c : Dev Cert.KernelIdeal.nD) (u v : Ideal .f32) (hs : scale m c = (u * v : EReal)) :
    out m c = Layout.block ⟨2, ![1024, 2048]⟩ ⟨2, ![4096, 2048]⟩ 0 4 c (Cert.ReferenceIdeal.Gen.k0_pay1 X W u v) := by
  unfold out
  rw [oD_eq]
  funext i
  obtain ⟨a, b, rfl⟩ : ∃ (a : Fin 1024) (b : Fin 2048), i = ix2 a b := ⟨i 0, i 1, eq_ix2 i⟩
  have hc := dev_lt c
  rw [Layout.block_apply]
  refine Eq.trans ?_ (at2 (Cert.ReferenceIdeal.Gen.k0_pay1 X W u v) (i := ix2 (⟨1024 * c.val + a.val, by omega⟩ : Fin 4096) b) ?_ ?_)
  · rw [ref_at, hs, sum4_eq, sum_blocks]
    exact congrArg (act _) (Finset.sum_congr rfl fun d _ => part_whole m X W hX hW c d (ix2 a b) _ rfl)
  · rw [Layout.Tiles.idx_val]
    show 1024 * c.val + a.val = c.val * 1024 + a.val
    omega
  · rw [Layout.Tiles.idx_val]
    rfl

/-- The scale a device reads: the product of its two scale arguments' elements. -/
theorem scale_eq (c : Dev Cert.KernelIdeal.nD) (U V : Vec Ideal Cert.ReferenceIdeal.S1 .f32)
    (hU : m ((c : Thread Cert.KernelIdeal.nD Cert.KernelIdeal.τ).loc Cert.KernelIdeal.main_arg2) = U)
    (hV : m ((c : Thread Cert.KernelIdeal.nD Cert.KernelIdeal.τ).loc Cert.KernelIdeal.main_arg3) = V) :
    scale m c = (U Cert.KRef.one * V Cert.KRef.one : EReal) := by
  subst hU hV
  exact congrArg₂ (· * · : EReal → EReal → EReal)
    (congrArg (m ((c : Thread Cert.KernelIdeal.nD Cert.KernelIdeal.τ).loc Cert.KernelIdeal.main_arg2)) (Cert.KRef.idx_one _ _))
    (congrArg (m ((c : Thread Cert.KernelIdeal.nD Cert.KernelIdeal.τ).loc Cert.KernelIdeal.main_arg3)) (Cert.KRef.idx_one _ _))

end

end Cert.KProof

end
-- ==== Proof.Same.lean ====
/-
# One program, printed twice

The kernel read on bits and the kernel read over exact values are the same text: part by part, then the body, the
body table and the host's program.
-/
module

public import proofs.«01_k».proof.Proof.Gen.Kernel
public import proofs.«01_k».proof.Proof.Gen.KernelIdeal

@[expose] public section

set_option maxRecDepth 65536

noncomputable section

namespace Cert.KSame

open Idealize.ShloMosaic

variable {F : FTy → Type} [FloatOps F]

theorem part1 : Cert.Kernel.k0_part1 (F := F) = Cert.KernelIdeal.k0_part1 (F := F) := rfl
theorem part2 : Cert.Kernel.k0_part2 (F := F) = Cert.KernelIdeal.k0_part2 (F := F) := rfl
theorem part3 : Cert.Kernel.k0_part3 (F := F) = Cert.KernelIdeal.k0_part3 (F := F) := rfl
theorem part4 : Cert.Kernel.k0_part4 (F := F) = Cert.KernelIdeal.k0_part4 (F := F) := rfl
theorem part5 : Cert.Kernel.k0_part5 (F := F) = Cert.KernelIdeal.k0_part5 (F := F) := rfl
theorem part6 : Cert.Kernel.k0_part6 (F := F) = Cert.KernelIdeal.k0_part6 (F := F) := rfl
theorem part7 : Cert.Kernel.k0_part7 (F := F) = Cert.KernelIdeal.k0_part7 (F := F) := rfl
theorem part8 : Cert.Kernel.k0_part8 (F := F) = Cert.KernelIdeal.k0_part8 (F := F) := rfl
theorem part9 : Cert.Kernel.k0_part9 (F := F) = Cert.KernelIdeal.k0_part9 (F := F) := rfl
theorem part10 : Cert.Kernel.k0_part10 (F := F) = Cert.KernelIdeal.k0_part10 (F := F) := rfl
theorem part11 : Cert.Kernel.k0_part11 (F := F) = Cert.KernelIdeal.k0_part11 (F := F) := rfl
theorem part12 : Cert.Kernel.k0_part12 (F := F) = Cert.KernelIdeal.k0_part12 (F := F) := rfl
theorem part13 : Cert.Kernel.k0_part13 (F := F) = Cert.KernelIdeal.k0_part13 (F := F) := rfl
theorem part14 : Cert.Kernel.k0_part14 (F := F) = Cert.KernelIdeal.k0_part14 (F := F) := rfl
theorem part15 : Cert.Kernel.k0_part15 (F := F) = Cert.KernelIdeal.k0_part15 (F := F) := rfl
theorem part16 : Cert.Kernel.k0_part16 (F := F) = Cert.KernelIdeal.k0_part16 (F := F) := rfl
theorem part17 : Cert.Kernel.k0_part17 (F := F) = Cert.KernelIdeal.k0_part17 (F := F) := rfl
theorem part18 : Cert.Kernel.k0_part18 (F := F) = Cert.KernelIdeal.k0_part18 (F := F) := rfl
theorem part19 : Cert.Kernel.k0_part19 (F := F) = Cert.KernelIdeal.k0_part19 (F := F) := rfl
theorem part20 : Cert.Kernel.k0_part20 (F := F) = Cert.KernelIdeal.k0_part20 (F := F) := rfl
theorem part21 : Cert.Kernel.k0_part21 (F := F) = Cert.KernelIdeal.k0_part21 (F := F) := rfl
theorem part22 : Cert.Kernel.k0_part22 (F := F) = Cert.KernelIdeal.k0_part22 (F := F) := rfl

/-- The bodies. -/
theorem body : Cert.Kernel.cc0_body (F := F) = Cert.KernelIdeal.cc0_body (F := F) := by
  unfold Cert.Kernel.cc0_body Cert.KernelIdeal.cc0_body
  simp only [part1, part2, part3, part4, part5, part6, part7, part8, part9, part10, part11, part12, part13, part14, part15, part16, part17, part18, part19, part20, part21, part22]
  rfl

/-- The body tables. -/
theorem table₀ : Cert.Kernel.defs₀ (F := F) = Cert.KernelIdeal.defs₀ (F := F) := by
  unfold Cert.Kernel.defs₀ Cert.KernelIdeal.defs₀
  rw [body]
  refine congrArg Defs.onTc (funext fun l => funext fun p => ?_)
  match l, p with
  | ⟨0, _⟩, (t, s) => rfl
  | ⟨n + 1, h⟩, _ => exact absurd h (Nat.not_lt.2 (Nat.le_add_left _ _))

/-- The tables with the pipeline's own bodies. -/
theorem table : Cert.Kernel.defs (F := F) = Cert.KernelIdeal.defs (F := F) := by
  unfold Cert.Kernel.defs Cert.KernelIdeal.defs
  rw [table₀]
  rfl

/-- The host's programs. -/
theorem host : Cert.Kernel.main (F := F) = Cert.KernelIdeal.main (F := F) := rfl

end Cert.KSame

end
-- ==== Proof.lean ====
/-
# The claims

Each claim of `Cert.Claim` from the runs: the kernel's on four devices (`Run`), the reference's on one (`RefRun`), and the
equality of what they compute over exact values (`Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Run
public import proofs.«01_k».proof.Proof.RefRun
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel, on bits: it ends, its arguments as launched and every semaphore at zero. (Its text is that of the exact
    program, which the run is stated of.) -/
theorem frame_kernel : Cert.quiescent_Kernel := fun m ρ _ => by
  rw [Cert.KSame.table, Cert.KSame.host]
  exact (θ_run Cert.KernelIdeal.defs _ _).mono (fun _ h => ⟨fun c => (h.1 c).2, h.2⟩) (Cert.KProof.run_main (F := Bits) m ρ)

/-- The same over exact values. -/
theorem frame_kernelIdeal : Cert.quiescent_KernelIdeal := fun m ρ _ =>
  (θ_run Cert.KernelIdeal.defs _ _).mono (fun _ h => ⟨fun c => (h.1 c).2, h.2⟩) (Cert.KProof.run_main (F := Ideal) m ρ)

/-- The reference with its two bounds named ends so too, -/
theorem frame_referenceIdeal : Cert.quiescent_ReferenceIdeal := fun m ρ _ => Cert.ReferenceIdeal.Gen.frame (F := Ideal) m ρ

/-- and so does the reference as written. -/
theorem frame_reference : Cert.quiescent_Reference := fun m ρ _ => Cert.Reference.Gen.frame (F := Bits) m ρ

/-- Nothing of the kernel was rewritten. -/
theorem preserves_kernel : Cert.preserves_Kernel_KernelIdeal := trivial

/-- Of the reference, the two bounds of the exponent were named: the infinities they stand for. -/
theorem preserves_reference : Cert.preserves_Reference_ReferenceIdeal :=
  ⟨IdealRules.named_const.statement Cert.ReferenceIdeal.κ "lo" .f32 0xC2700000#32 ⊥ rfl,
    IdealRules.named_const.statement Cert.ReferenceIdeal.κ "hi" .f32 0x42700000#32 ⊤ rfl⟩

/-- Over exact values the four devices end holding the reference's result, each its rows. -/
theorem value : Cert.algebraic_KernelIdeal_ReferenceIdeal := fun m g m' g' _ hin => by
  refine ⟨Cert.KRef.result m' 0, ?_, ?_⟩
  · refine (θ_run Cert.KernelIdeal.defs _ _).mono (fun r h c => ?_) (Cert.KProof.run_main (F := Ideal) m g)
    refine ⟨(h.1 c).1.trans ?_, (h.1 c).2⟩
    exact Cert.KProof.out_whole m _ _ (fun d => (hin d).1) (fun d => (hin d).2.1) c _ _
      (Cert.KProof.scale_eq m c _ _ (hin c).2.2.1 (hin c).2.2.2)
  · exact (θ_run Cert.ReferenceIdeal.defs _ _).mono (fun r h => h 0) (Cert.KRef.run (F := Ideal) m' g')

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, preserves_kernel, preserves_reference, value⟩

end Cert.Proof

end
